-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S256x512, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S3x256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_8 : BitVec 32 := 1#32
  let v13 : BitVec 32 := Scalar.muli v5 c1_i32_8
  let v14 : BitVec 32 := Scalar.addi c0_i32 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v6 : BitVec 32 := Scalar.addi v2 c_m1_i32
  let c4_i32_3 : BitVec 32 := 4#32
  let v7 : BitVec 32 := Scalar.addi v6 c4_i32_3
  let c4_i32_4 : BitVec 32 := 4#32
  let v8 : BitVec 32 := Scalar.remsi v7 c4_i32_4
  let c1_i32_10 : BitVec 32 := 1#32
  let v15 : BitVec 32 := Scalar.muli v8 c1_i32_10
  let v16 : BitVec 32 := Scalar.addi c0_i32_11 v15
  v16.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v9 : BitVec 32 := Scalar.addi v2 c2_i32
  let c4_i32_5 : BitVec 32 := 4#32
  let v10 : BitVec 32 := Scalar.addi v9 c4_i32_5
  let c4_i32_6 : BitVec 32 := 4#32
  let v11 : BitVec 32 := Scalar.remsi v10 c4_i32_6
  let c1_i32_13 : BitVec 32 := 1#32
  let v17 : BitVec 32 := Scalar.muli v11 c1_i32_13
  let v18 : BitVec 32 := Scalar.addi c0_i32_14 v17
  v18.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_29 : BitVec 32 := 1#32
  let v36 : BitVec 32 := Scalar.muli v5 c1_i32_29
  let v37 : BitVec 32 := Scalar.addi c0_i32_30 v36
  v37.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v6 : BitVec 32 := Scalar.addi v2 c_m1_i32
  let c4_i32_3 : BitVec 32 := 4#32
  let v7 : BitVec 32 := Scalar.addi v6 c4_i32_3
  let c4_i32_4 : BitVec 32 := 4#32
  let v8 : BitVec 32 := Scalar.remsi v7 c4_i32_4
  let c1_i32_36 : BitVec 32 := 1#32
  let v44 : BitVec 32 := Scalar.muli v8 c1_i32_36
  let v45 : BitVec 32 := Scalar.addi c0_i32_37 v44
  v45.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v9 : BitVec 32 := Scalar.addi v2 c2_i32
  let c4_i32_5 : BitVec 32 := 4#32
  let v10 : BitVec 32 := Scalar.addi v9 c4_i32_5
  let c4_i32_6 : BitVec 32 := 4#32
  let v11 : BitVec 32 := Scalar.remsi v10 c4_i32_6
  let c1_i32_43 : BitVec 32 := 1#32
  let v52 : BitVec 32 := Scalar.muli v11 c1_i32_43
  let v53 : BitVec 32 := Scalar.addi c0_i32_44 v52
  v53.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x256 : Shape := ⟨2, ![256, 256]⟩
abbrev S256x2048 : Shape := ⟨2, ![256, 2048]⟩
abbrev S2048x256 : Shape := ⟨2, ![2048, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | .hbm, ⟨3, _⟩ => ⟨S2048x256, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Peers.lean ====
/-
# Peers: who exchanges what with whom

Each of the four devices exchanges one block with each of the three others. The exchange numbered `j` (`0, 1, 2`)
sends to the device `+1`, `+3`, `+2` places on, and so receives from the device `+3`, `+1`, `+2` places on. This
module names the two peers of an exchange, the memory and the semaphores an exchange uses, and identifies the
addresses and semaphores the program computes with those names.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic
open Idealize.ShloMosaic.TcCoe

/-! ## The devices -/

/-- How many places on exchange `j` sends. -/
def hop (j : Fin 3) : ℕ := match j with | 0 => 1 | 1 => 3 | 2 => 2

/-- The exchange that undoes `j`: sending by `j` and then by `opp j` comes back. -/
def opp (j : Fin 3) : Fin 3 := match j with | 0 => 1 | 1 => 0 | 2 => 2

set_option backward.proofsInPublic true in
/-- The device that exchange `j` of device `c` sends to. -/
def dst (j : Fin 3) (c : Dev nD) : Dev nD := ⟨(c.val + hop j) % 4, Nat.mod_lt _ (by decide)⟩

/-- The device that exchange `j` of device `c` receives from. -/
abbrev org (j : Fin 3) (c : Dev nD) : Dev nD := dst (opp j) c

/-- Undoing twice is the exchange itself. -/
theorem opp_opp (j : Fin 3) : opp (opp j) = j := by revert j; decide
/-- Sending by `j`, then by its opposite, comes back; -/
theorem dst_opp_dst (j : Fin 3) (c : Dev nD) : dst (opp j) (dst j c) = c := by revert j c; decide
/-- so does sending by the opposite, then by `j`. -/
theorem dst_dst_opp (j : Fin 3) (c : Dev nD) : dst j (dst (opp j) c) = c := by revert j c; decide

/-- Sending by exchange `j` permutes the devices. -/
def dstEquiv (j : Fin 3) : Dev nD ≃ Dev nD := ⟨dst j, dst (opp j), dst_opp_dst j, dst_dst_opp j⟩

/-- The other exchange undoes itself too: an involution of the three. -/
def oppEquiv : Fin 3 ≃ Fin 3 := ⟨opp, opp, opp_opp, opp_opp⟩

/-- The six device numbers the program computes are the three peers, once for the signals and once for the copies.
    The first signal goes to the peer of exchange 0, -/
theorem dev1_eq (c : Dev nD) : (⟨k0_dev1 c, k0_dev1_lt c⟩ : Dev nD) = dst 0 c :=
  Fin.ext ((k0_dev1_eq c).trans (by revert c; decide))
/-- The second signal goes to the peer of exchange 1, -/
theorem dev2_eq (c : Dev nD) : (⟨k0_dev2 c, k0_dev2_lt c⟩ : Dev nD) = dst 1 c :=
  Fin.ext ((k0_dev2_eq c).trans (by revert c; decide))
/-- the third to the peer of exchange 2; -/
theorem dev3_eq (c : Dev nD) : (⟨k0_dev3 c, k0_dev3_lt c⟩ : Dev nD) = dst 2 c :=
  Fin.ext ((k0_dev3_eq c).trans (by revert c; decide))
/-- the first copy goes to the peer of exchange 0, -/
theorem dev4_eq (c : Dev nD) : (⟨k0_dev4 c, k0_dev4_lt c⟩ : Dev nD) = dst 0 c :=
  Fin.ext ((k0_dev4_eq c).trans (by revert c; decide))
/-- the second to the peer of exchange 1, -/
theorem dev5_eq (c : Dev nD) : (⟨k0_dev5 c, k0_dev5_lt c⟩ : Dev nD) = dst 1 c :=
  Fin.ext ((k0_dev5_eq c).trans (by revert c; decide))
/-- the third to the peer of exchange 2. -/
theorem dev6_eq (c : Dev nD) : (⟨k0_dev6 c, k0_dev6_lt c⟩ : Dev nD) = dst 2 c :=
  Fin.ext ((k0_dev6_eq c).trans (by revert c; decide))

/-! ## The memory -/

/-- The block a device sends. -/
abbrev srcM : Memref sig .tc .vmem S256x256 .f32 := Memref.whole cc0_scratch0
/-- The landing buffer, all three blocks. -/
abbrev recvM : Memref sig .tc .vmem S3x256x256 .f32 := Memref.whole cc0_scratch1
/-- The result block. -/
abbrev outM : Memref sig .tc .vmem S256x256 .f32 := Memref.whole cc0_stg4_0

/-- Each landing block lies inside the landing buffer. -/
theorem slot_inb (j : Fin 3) : ∀ a, (![j.val, 0, 0] : Fin 3 → ℕ) a + S1x256x256.size a ≤ S3x256x256.size a := by
  revert j; decide

/-- The rectangle of landing block `j`. -/
abbrev slotR (j : Fin 3) : Rect S3x256x256 := Rect.unit (s := S3x256x256) ![j.val, 0, 0] S1x256x256.size (slot_inb j)

/-- Landing block `j` as a block of its own. -/
abbrev slotM (j : Fin 3) : Memref sig .tc .vmem S256x256 .f32 :=
  (recvM.slice (slotR j) (fun _ => rfl)).squeeze S256x256 squeezes_S1x256x256_S256x256

/-! ## The semaphores -/

/-- The runtime's barrier semaphore. -/
abbrev barS : Sem sig := (SemArray.scalar (sig.barrier 0 rfl) : Sems sig S_).sem

set_option backward.proofsInPublic true in
/-- Exchange `j`'s semaphore for the departure of the block sent, -/
def sendS (j : Fin 3) : DmaSem sig := ⟨5 + j.val, show 5 + j.val < 11 by omega⟩
set_option backward.proofsInPublic true in
/-- and the one for the arrival of the block received. -/
def recvS (j : Fin 3) : DmaSem sig := ⟨8 + j.val, show 8 + j.val < 11 by omega⟩

/-- Whether a transfer semaphore counts arrivals. -/
def isRecv (q : DmaSem sig) : Bool := 8 ≤ q.val
set_option backward.proofsInPublic true in
/-- Which exchange a transfer semaphore belongs to. -/
def exchOf (q : DmaSem sig) : Fin 3 := ⟨(q.val + 1) % 3, Nat.mod_lt _ (by decide)⟩

/-- A departure semaphore does not count arrivals; -/
theorem isRecv_sendS (j : Fin 3) : isRecv (sendS j) = false := by revert j; decide
/-- an arrival semaphore does. -/
theorem isRecv_recvS (j : Fin 3) : isRecv (recvS j) = true := by revert j; decide
/-- Exchange `j`'s departure semaphore belongs to exchange `j`; -/
theorem exchOf_sendS (j : Fin 3) : exchOf (sendS j) = j := by revert j; decide
/-- so does its arrival semaphore. -/
theorem exchOf_recvS (j : Fin 3) : exchOf (recvS j) = j := by revert j; decide

/-- Entry `j` of the array of departure semaphores is departure semaphore `j`; -/
theorem send_slice (j : Fin 3) (h : ∀ a, (![j.val] : Fin 1 → ℕ) a + S1.size a ≤ S3.size a) :
    ((cc0_scratch2.slice (Rect.unit (s := S3) ![j.val] S1.size h)).squeeze S_ squeezes_S1_S_).sem = sendS j := by
  revert j; decide
/-- entry `j` of the array of arrival semaphores is arrival semaphore `j`. -/
theorem recv_slice (j : Fin 3) (h : ∀ a, (![j.val] : Fin 1 → ℕ) a + S1.size a ≤ S3.size a) :
    ((cc0_scratch3.slice (Rect.unit (s := S3) ![j.val] S1.size h)).squeeze S_ squeezes_S1_S_).sem = recvS j := by
  revert j; decide

/-- Device `c`'s barrier. -/
abbrev barCell (c : Dev nD) : GSem nD τ sig := ((c : Thread nD τ), .reg barS)
/-- Device `c`'s departure semaphore of exchange `j`. -/
abbrev sendCell (j : Fin 3) (c : Dev nD) : GSem nD τ sig := ((c : Thread nD τ), .dma (sendS j))
/-- Device `c`'s arrival semaphore of exchange `j`. -/
abbrev recvCell (j : Fin 3) (c : Dev nD) : GSem nD τ sig := ((c : Thread nD τ), .dma (recvS j))

/-- The amount one block's copy adds to a semaphore, the same for the sent block and every landing block. -/
abbrev N : ℕ := (srcM : Memref sig .tc .vmem S256x256 .f32).view.dmaCredit
/-- A copy adds something. -/
theorem N_pos : 0 < N := View.dmaCredit_pos _ (by decide)
/-- A copy into any landing block adds that amount. -/
theorem slot_credit (j : Fin 3) : (slotM j : Memref sig .tc .vmem S256x256 .f32).view.dmaCredit = N := rfl

end Cert.AllToAll

end
-- ==== Proof.Protocol.lean ====
/-
# Protocol: what each semaphore promises

Every semaphore of a device is used for one round. On the barrier each of the three peers signals once, and with its
signal gives the device leave to overwrite one landing block of that peer. On an arrival semaphore the peer's copy
delivers the landing block, holding the block the peer sent. On a departure semaphore the device's own copy gives
back the share of the sent block it was reading. The module states these promises as a schedule of duties, tabulates
it, and says what every device owes at the start and which waits that allows.

The blocks sent are a parameter `P`, one block per device: the protocol does not depend on how they are computed.
-/
module

public import proofs.«01_k».proof.Proof.Peers

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's share and the exchange's, whose duties are named by exchange numbers -/

/-- The exchange's ghost state. -/
abbrev UB : Type := URounds (GSem nD τ sig) (Fin 3)
/-- The staging pipeline's and the exchange's, side by side. -/
abbrev UU : Type := UR sig nD τ × UB

local notation "𝕄" => MT nD τ sig Unit (Elt F) ℕ UU ℕ

/-- Where the pipeline's ghost state lies in the whole, -/
abbrev EP : Emb (UR sig nD τ) (MT nD τ sig Unit (Elt F) ℕ UU ℕ) := embL
/-- and where the exchange's does. -/
abbrev ER : Emb UB (MT nD τ sig Unit (Elt F) ℕ UU ℕ) := embR

/-- A block of the exchange. -/
abbrev Block (F : FTy → Type) : Type := S256x256.Idx → Elt F .f32

variable (P : Dev nD → Block F)

omit [FloatOps F] in
/-- A separating product over the three exchanges, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-! ## What is handed over -/

/-- The share of the sent block that exchange `j`'s copy reads it under: the three shares make the whole. -/
def shr (j : Fin 3) : PosShare TreeShare := match j with
  | 0 => fullShare.left
  | 1 => fullShare.right.left
  | 2 => fullShare.right.right

/-- Device `c`'s block to send, held at share `q` and contents `f`. -/
def srcPts (q : PosShare TreeShare) (c : Dev nD) (f : Block F) : sProp 𝕄 :=
  (srcM : Memref sig .tc .vmem S256x256 .f32).view.loc (c : Thread nD τ)
    ↦[(srcM : Memref sig .tc .vmem S256x256 .f32).view.set]{q} f

/-- Landing block `j` of device `c`, at contents `f` of its buffer; -/
def slotPts (j : Fin 3) (c : Dev nD) (f : Buf (Elt F) ((slotM j : Memref sig .tc .vmem S256x256 .f32).view.loc (c : Thread nD τ))) : sProp 𝕄 :=
  (slotM j : Memref sig .tc .vmem S256x256 .f32).view.loc (c : Thread nD τ)
    ↦[(slotM j : Memref sig .tc .vmem S256x256 .f32).view.set]{fullShare} f
/-- at any contents; -/
def slotFree (j : Fin 3) (c : Dev nD) : sProp 𝕄 := iprop(∃ f, slotPts j c f)
/-- holding the block `X`. -/
def slotHolds (j : Fin 3) (c : Dev nD) (X : Block F) : sProp 𝕄 :=
  iprop(∃ f, ⌜(slotM j : Memref sig .tc .vmem S256x256 .f32).view.read (Elt F) f = X⌝ ∗ slotPts j c f)

omit [FloatOps F] in
/-- What a wait brings may be kept in an invariant: a share of the sent block, -/
instance srcPts_storable (q : PosShare TreeShare) (c : Dev nD) (f : Block F) :
    BI.Storable (upEmb : UEmb _ 𝕄) (srcPts q c f) := by unfold srcPts; infer_instance
omit [FloatOps F] in
/-- a landing block at any contents, -/
instance slotFree_storable (j : Fin 3) (c : Dev nD) :
    BI.Storable (upEmb : UEmb _ 𝕄) (slotFree (F := F) j c) := by unfold slotFree slotPts; infer_instance
omit [FloatOps F] in
/-- a landing block with what it holds, -/
instance slotHolds_storable (j : Fin 3) (c : Dev nD) (X : Block F) :
    BI.Storable (upEmb : UEmb _ 𝕄) (slotHolds j c X) := by unfold slotHolds slotPts; infer_instance

omit [FloatOps F] in
/-- What a block holds is some contents. -/
theorem slotHolds_free (j : Fin 3) (c : Dev nD) (X : Block F) : slotHolds (F := F) j c X ⊢ (slotFree j c : sProp 𝕄) := by
  unfold slotHolds slotFree
  iintro ⟨%f, -, H⟩
  iexists f; iexact H

/-! ## The schedule -/

/-- What the duty `d` of a semaphore of device `c` hands to `c`. On the barrier, duty `d` is the signal of the device
    that `c`'s exchange `d` sends to: it hands over that device's landing block `d`. -/
def duePay (c : Dev nD) (sm : SemLoc sig) (d : Fin 3) : sProp 𝕄 := match sm with
  | .reg _ => slotFree d (dst d c)
  | .dma q => if isRecv q then slotHolds (exchOf q) c (P (org (exchOf q) c)) else srcPts (shr (exchOf q)) c (P c)

/-- One round: three duties of one unit on a barrier, one duty of a block's amount on a transfer semaphore. -/
def xch : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := duePay P g.1.1 g.2 d
  amount_pos g _ _ _ := by
    obtain ⟨t, s | q⟩ := g
    · exact Nat.one_pos
    · exact N_pos

/-- and so whatever the schedule hands over. -/
instance xch_storable (g : GSem nD τ sig) (r : ℕ) (d : Fin 3) :
    BI.Storable (upEmb : UEmb _ 𝕄) ((xch P).payload g r d) := by
  show BI.Storable upEmb (duePay P g.1.1 g.2 d)
  unfold duePay
  obtain ⟨t, s | q⟩ := g
  · exact slotFree_storable d _
  · dsimp only; split
    · exact slotHolds_storable _ _ _
    · exact srcPts_storable _ _ _

section Table
variable (c : Dev nD) (j d : Fin 3) (q : DmaSem sig)

omit [FloatOps F] in
/-- A barrier has three duties, one to each exchange; -/
theorem duties_bar : (xch P).duties (barCell c) 0 = Finset.univ := rfl
omit [FloatOps F] in
/-- a transfer semaphore has one. -/
theorem duties_dma : (xch P).duties ((c : Thread nD τ), .dma q) 0 = {0} := rfl
omit [FloatOps F] in
/-- After the one round no semaphore has a duty. -/
theorem duties_later (g : GSem nD τ sig) : ∀ r, 1 ≤ r → (xch P).duties g r = ∅ :=
  fun r hr => if_neg (by omega)
omit [FloatOps F] in
/-- A signal counts one; -/
theorem amount_bar : (xch P).amount (barCell c) 0 d = 1 := rfl
omit [FloatOps F] in
/-- a copy counts its amount. -/
theorem amount_dma : (xch P).amount ((c : Thread nD τ), .dma q) 0 d = N := rfl
omit [FloatOps F] in
/-- A barrier's round is three units, -/
theorem expect_bar : (xch P).expect (barCell c) 0 = 3 := by
  unfold Schedule.expect Schedule.amountOf
  rw [duties_bar, Finset.sum_congr rfl fun d _ => amount_bar P c d, Finset.sum_const, Finset.card_univ, Fintype.card_fin, smul_eq_mul]
omit [FloatOps F] in
/-- a transfer's one block. -/
theorem expect_dma : (xch P).expect ((c : Thread nD τ), .dma q) 0 = N := by
  unfold Schedule.expect Schedule.amountOf; rw [duties_dma, Finset.sum_singleton, amount_dma]

omit [FloatOps F] in
/-- The signal of duty `d` hands over the peer's landing block `d`. -/
theorem payload_bar : (xch P).payload (barCell c) 0 d = slotFree d (dst d c) := rfl
omit [FloatOps F] in
/-- A departure hands back the copy's share of the sent block. -/
theorem payload_send : (xch P).payload (sendCell j c) 0 d = srcPts (shr j) c (P c) := by
  show duePay P c (.dma (sendS j)) d = _
  dsimp only [duePay]; rw [isRecv_sendS, exchOf_sendS]; rfl
omit [FloatOps F] in
/-- An arrival hands over the landing block, holding the peer's block. -/
theorem payload_recv : (xch P).payload (recvCell j c) 0 d = slotHolds j c (P (org j c)) := by
  show duePay P c (.dma (recvS j)) d = _
  dsimp only [duePay]; rw [isRecv_recvS, exchOf_recvS]; rfl

omit [FloatOps F] in
/-- A barrier wait brings all three peers' landing blocks. -/
theorem rest_bar : bigSep ((xch P).duties (barCell c) 0 \ ∅) (fun d => (xch P).payload (barCell c) 0 d)
    = iprop(slotFree 0 (dst 0 c) ∗ slotFree 1 (dst 1 c) ∗ slotFree 2 (dst 2 c)) := by
  rw [Finset.sdiff_empty, duties_bar, bigSep_three]; rfl
omit [FloatOps F] in
/-- A departure wait brings the share of the sent block back. -/
theorem rest_send : bigSep ((xch P).duties (sendCell j c) 0 \ ∅) (fun d => (xch P).payload (sendCell j c) 0 d)
    = srcPts (shr j) c (P c) := by
  rw [Finset.sdiff_empty, duties_dma, bigSep_singleton, payload_send]
omit [FloatOps F] in
/-- An arrival wait brings the landing block, holding what the peer sent. -/
theorem rest_recv : bigSep ((xch P).duties (recvCell j c) 0 \ ∅) (fun d => (xch P).payload (recvCell j c) 0 d)
    = slotHolds j c (P (org j c)) := by
  rw [Finset.sdiff_empty, duties_dma, bigSep_singleton, payload_recv]

end Table

/-! ## What is owed -/

/-- The same amount owed to each of three semaphores, less the first `n` already paid. -/
def dueBy (g : Fin 3 → GSem nD τ sig) (a n : ℕ) : CellTallies nD τ sig Unit :=
  ∑ j : Fin 3, if n ≤ j.val then tallyAt (g j) () a else 0

/-- Paying the `j`th of three debts. -/
theorem dueBy_step (g : Fin 3 → GSem nD τ sig) (a : ℕ) (j : Fin 3) :
    dueBy g a j.val = dueBy g a (j.val + 1) + tallyAt (g j) () a := by
  have h : ∀ i : Fin 3, (if j.val ≤ i.val then tallyAt (g i) () a else (0 : CellTallies nD τ sig Unit))
      = (if j.val + 1 ≤ i.val then tallyAt (g i) () a else 0) + if i = j then tallyAt (g i) () a else 0 := fun i => by
    rcases Nat.lt_trichotomy j.val i.val with h | h | h
    · rw [if_pos h.le, if_pos (Nat.succ_le_of_lt h), if_neg fun e => absurd (congrArg Fin.val e) (by omega), add_zero]
    · rw [if_pos h.le, if_neg (by omega), if_pos (Fin.ext h.symm), zero_add]
    · rw [if_neg (by omega), if_neg (by omega), if_neg fun e => absurd (congrArg Fin.val e) (by omega), add_zero]
  unfold dueBy
  rw [Finset.sum_congr rfl fun i _ => h i, Finset.sum_add_distrib, Finset.sum_ite_eq' Finset.univ j, if_pos (Finset.mem_univ j)]

/-- After three payments nothing is owed. -/
theorem dueBy_three (g : Fin 3 → GSem nD τ sig) (a : ℕ) : dueBy g a 3 = 0 :=
  Finset.sum_eq_zero fun j _ => if_neg (by omega)

/-- How much is owed to one semaphore. -/
theorem dueBy_apply (g : Fin 3 → GSem nD τ sig) (a n : ℕ) (g' : GSem nD τ sig) (u : Unit) :
    dueBy g a n g' u = ∑ j : Fin 3, if n ≤ j.val ∧ g' = g j then a else 0 := by
  unfold dueBy
  rw [Finset.sum_apply, Finsupp.finset_sum_apply]
  refine Finset.sum_congr rfl fun j _ => ?_
  by_cases h : n ≤ j.val
  · rw [if_pos h, tallyAt_apply]; exact if_congr (by simp [h]) rfl rfl
  · rw [if_neg h, if_neg fun h' => h h'.1]; rfl

/-- Whatever is owed is owed to one of the three. -/
theorem dueBy_pos {g : Fin 3 → GSem nD τ sig} {a n : ℕ} {g' : GSem nD τ sig} {u : Unit} (h : 0 < dueBy g a n g' u) :
    ∃ j, g' = g j := by
  rw [dueBy_apply] at h
  by_contra hn
  rw [Finset.sum_eq_zero fun j _ => if_neg fun h' => hn ⟨j, h'.2⟩] at h
  exact Nat.lt_irrefl 0 h

/-- Device `c`'s debt to its peers' barriers, the first `n` signals sent, -/
def sigDue (c : Dev nD) (n : ℕ) : CellTallies nD τ sig Unit := dueBy (fun j => barCell (dst j c)) 1 n
/-- and to their arrival semaphores, the first `n` copies sent; -/
def cpyDue (c : Dev nD) (n : ℕ) : CellTallies nD τ sig Unit := dueBy (fun j => recvCell j (dst j c)) N n
/-- in all at the start. -/
def owed₀ (c : Dev nD) : CellTallies nD τ sig Unit := cpyDue c 0 + sigDue c 0

/-! ## The order of waits: staging and departures, then the barrier, then arrivals -/

/-- Every semaphore of a device has one level; -/
def L (g : GSem nD τ sig) : Finset Unit := if g.1.2 = .tc then {()} else ∅
/-- departures and staging wait at level 0, barriers at 1, arrivals at 2. -/
def lv (g : GSem nD τ sig) (_ : Unit) : ℕ := match g.2 with
  | .reg _ => 1
  | .dma q => if isRecv q then 2 else 0

/-- Only the device's own core has semaphores with a level. -/
theorem L_of_ne (g : GSem nD τ sig) (h : g.1.2 ≠ .tc) : L g = ∅ := if_neg h
/-- A semaphore of the core has its one level. -/
theorem L_tc (c : Dev nD) (sm : SemLoc sig) : L ((c : Thread nD τ), sm) = {()} := if_pos rfl
/-- Arrivals are at level 2. -/
theorem lv_recv (j : Fin 3) (c : Dev nD) (u : Unit) : lv (recvCell j c) u = 2 := by
  show (if isRecv (recvS j) then 2 else 0) = 2
  rw [isRecv_recvS]; rfl

/-- What a device may owe is owed at an arrival semaphore or a barrier. -/
theorem owed₀_pos {c : Dev nD} {g : GSem nD τ sig} {u : Unit} (h : 0 < owed₀ c g u) :
    (∃ j, g = recvCell j (dst j c)) ∨ ∃ j, g = barCell (dst j c) := by
  unfold owed₀ at h
  rw [Pi.add_apply, Finsupp.add_apply] at h
  rcases Nat.eq_zero_or_pos (cpyDue c 0 g u) with h0 | h0
  · rw [h0, Nat.zero_add] at h; exact .inr (dueBy_pos h)
  · exact .inl (dueBy_pos h0)

omit [FloatOps F] in
/-- A staging or departure semaphore may be waited for whatever is owed. -/
theorem mayWait_low (c : Dev nD) (q : DmaSem sig) (hq : isRecv q = false) (O : CellTallies nD τ sig Unit)
    (hO : O = owed₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases owed₀_pos hg with ⟨j, rfl⟩ | ⟨j, rfl⟩ <;> exact Finset.mem_singleton_self _)
      (fun p hp => by
        rw [Finset.mem_singleton.mp hp]
        show (if isRecv q then 2 else 0) ≤ 0
        rw [hq]; exact Nat.le_refl 0)
      (fun g u hg => by
        rcases owed₀_pos hg with ⟨j, rfl⟩ | ⟨j, rfl⟩
        · rw [lv_recv]; decide
        · exact Nat.one_pos)
  · rw [MayWait_zero]; iintro -; iempintro

omit [FloatOps F] in
/-- The barrier may be waited for while only copies are owed. -/
theorem mayWait_bar (c : Dev nD) :
    (levAts L lv : sProp 𝕄) ⊢ MayWait (c : Thread nD τ) (.reg barS) () (cpyDue c 0) :=
  MayOwe.of_cut (L := L) (lev := lv) 1
    (fun p hp => by rw [Finset.mem_singleton.mp hp, L_tc]; exact Finset.mem_singleton_self _)
    (fun g u hg => by obtain ⟨j, rfl⟩ := dueBy_pos hg; exact Finset.mem_singleton_self _)
    (fun p hp => by rw [Finset.mem_singleton.mp hp]; exact Nat.le_refl 1)
    (fun g u hg => by obtain ⟨j, rfl⟩ := dueBy_pos hg; rw [lv_recv]; decide)

end Cert.AllToAll

end
-- ==== Proof.Memory.lean ====
/-
# Memory: the sent block in shares, the landing buffer in blocks

The block a device sends is read by three copies at once, so its ownership is divided into three shares. The landing
buffer is three blocks, each written by one peer. This module divides both and puts them together again, and says what
loading a landing block out of the buffer gives.
-/
module

public import proofs.«01_k».proof.Proof.Protocol
public import Idealize.ShloMosaic.Lib.Ring

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The landing buffer -/

/-- The elements of landing block `j` are those of its rectangle, -/
theorem slot_set (j : Fin 3) : (slotM j : Memref sig .tc .vmem S256x256 .f32).view.set = (slotR j).set :=
  (View.set_reshape _ _).trans (View.set_slice_whole _ _)

/-- the ones whose first coordinate is `j`. -/
theorem mem_slotR (j : Fin 3) (i : S3x256x256.Idx) : i ∈ (slotR j).set ↔ (i 0).val = j.val := by
  rw [Rect.mem_set_unit, Fin.forall_fin_succ, Fin.forall_fin_two]
  have h1 := (i 1).isLt
  have h2 := (i 2).isLt
  have hs : S1x256x256.size 0 = 1 := rfl
  constructor
  · rintro ⟨⟨h, h'⟩, -⟩
    have e : (![j.val, 0, 0] : Fin 3 → ℕ) 0 = j.val := rfl
    rw [e] at h h'; rw [hs] at h'
    omega
  · intro h
    refine ⟨⟨h.ge, ?_⟩, ⟨Nat.zero_le _, ?_⟩, ⟨Nat.zero_le _, ?_⟩⟩
    · show (i 0).val < j.val + 1; omega
    · exact h1.trans_eq (Nat.zero_add _).symm
    · exact h2.trans_eq (Nat.zero_add _).symm

/-- The landing blocks share no element, -/
theorem slotR_disjoint (j j' : Fin 3) (h : j ≠ j') : Disjoint (slotR j).set (slotR j').set :=
  Finset.disjoint_left.mpr fun i hi hi' =>
    h (Fin.ext (((mem_slotR j i).mp hi).symm.trans ((mem_slotR j' i).mp hi')))

/-- and together are the whole landing buffer. -/
theorem slotR_cover : (Finset.univ : Finset (Fin 3)).biUnion (fun j => (slotR j).set) = Finset.univ :=
  Finset.eq_univ_iff_forall.mpr fun i =>
    Finset.mem_biUnion.mpr ⟨⟨(i 0).val, (i 0).isLt⟩, Finset.mem_univ _, (mem_slotR _ i).mpr rfl⟩

omit [FloatOps F] in
/-- Holding a landing block is holding its rectangle of the buffer. -/
theorem slotPts_eq (j : Fin 3) (c : Dev nD) (f : Buf (Elt F) ((c : Thread nD τ).loc cc0_scratch1)) :
    (slotPts j c f : sProp 𝕄) = (((c : Thread nD τ).loc cc0_scratch1) ↦[(slotR j).set]{fullShare} f : sProp 𝕄) := by
  unfold slotPts; rw [slot_set]

omit [FloatOps F] in
/-- The landing buffer at any contents is its three blocks at any contents, -/
theorem landing_split (c : Dev nD) : iprop(∃ f, ((c : Thread nD τ).loc cc0_scratch1) ↦{fullShare} f)
    ⊢ (iprop(slotFree 0 c ∗ slotFree 1 c ∗ slotFree 2 c) : sProp 𝕄) :=
  Ring.slots3_split (ℓ := (c : Thread nD τ).loc cc0_scratch1) (fun j => (slotR j).set) slotR_disjoint slotR_cover
    (fun f => slotPts 0 c f) (fun f => slotPts 1 c f) (fun f => slotPts 2 c f)
    (fun f => slotPts_eq 0 c f) (fun f => slotPts_eq 1 c f) (fun f => slotPts_eq 2 c f)

omit [FloatOps F] in
/-- and the three blocks the buffer. -/
theorem landing_join (c : Dev nD) : (iprop(slotFree 0 c ∗ slotFree 1 c ∗ slotFree 2 c) : sProp 𝕄)
    ⊢ iprop(∃ f, ((c : Thread nD τ).loc cc0_scratch1) ↦{fullShare} f) :=
  Ring.slots3_join (ℓ := (c : Thread nD τ).loc cc0_scratch1) (fun j => (slotR j).set) slotR_disjoint slotR_cover
    (fun f => slotPts 0 c f) (fun f => slotPts 1 c f) (fun f => slotPts 2 c f)
    (fun f => slotPts_eq 0 c f) (fun f => slotPts_eq 1 c f) (fun f => slotPts_eq 2 c f)

omit [FloatOps F] in
/-- Loading rectangle `j` of the buffer, its axis of extent one dropped, gives what landing block `j` reads. -/
theorem load_slot (j : Fin 3) (f : (cc0_scratch1 : Ref sig .tc).ty.Contents (Elt F)) (h : S1x256x256.ShapeCasts S256x256) :
    shapeCast S256x256 ((recvM : Memref sig .tc .vmem S3x256x256 .f32).view.readAt (Elt F) (slotR j).toLoadRect f) h
      = (slotM j : Memref sig .tc .vmem S256x256 .f32).view.read (Elt F) f := rfl

/-! ## The sent block -/

omit [FloatOps F] in
/-- Holding a share of the sent block is holding that share of its buffer. -/
theorem srcPts_eq (q : PosShare TreeShare) (c : Dev nD) (f : Block F) :
    (srcPts q c f : sProp 𝕄) = (((c : Thread nD τ).loc cc0_scratch0) ↦{q} f : sProp 𝕄) := by
  unfold srcPts; simp only [Memref.view_whole, View.set_whole]

omit [FloatOps F] in
/-- The sent block is its three shares, -/
theorem sent_split (c : Dev nD) (f : Block F) : (((c : Thread nD τ).loc cc0_scratch0) ↦{fullShare} f)
    ⊢ (iprop(srcPts (shr 0) c f ∗ srcPts (shr 1) c f ∗ srcPts (shr 2) c f) : sProp 𝕄) := by
  rw [srcPts_eq, srcPts_eq, srcPts_eq]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2

omit [FloatOps F] in
/-- and the three shares the block. -/
theorem sent_join (c : Dev nD) (f : Block F) : (iprop(srcPts (shr 0) c f ∗ srcPts (shr 1) c f ∗ srcPts (shr 2) c f) : sProp 𝕄)
    ⊢ (((c : Thread nD τ).loc cc0_scratch0) ↦{fullShare} f) := by
  rw [srcPts_eq, srcPts_eq, srcPts_eq]
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

end Cert.AllToAll

end
-- ==== Proof.Steps.lean ====
/-
# Steps: one signal, one copy, one wait

The body performs three signals, three copies and seven waits. Each kind is one rule, stated for every exchange `j` and
every device: what the step needs, and what it leaves. All rest on one persistent record of the semaphores'
invariants, at some names `K`.
-/
module

public import proofs.«01_k».proof.Proof.Memory

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Block F)

/-- The body has no loop, so no loop variant is needed. -/
abbrev 𝒱₀ : Variants := Variants.none

/-! ## The semaphores, numbered -/

set_option backward.proofsInPublic true in
/-- A device's seven semaphores by number: the barrier, then the departures, then the arrivals. -/
def csem (k : Fin 7) : SemLoc sig := if k = 0 then .reg barS else .dma ⟨4 + k.val, show 4 + k.val < 11 by omega⟩

/-- All the semaphores of the exchange, by device and number. -/
def kcell (ck : Dev nD × Fin 7) : GSem nD τ sig := ((ck.1 : Thread nD τ), csem ck.2)

set_option backward.proofsInPublic true in
/-- The number of departure semaphore `j`, -/
def kS (j : Fin 3) : Fin 7 := ⟨1 + j.val, by omega⟩
set_option backward.proofsInPublic true in
/-- and of arrival semaphore `j`. -/
def kR (j : Fin 3) : Fin 7 := ⟨4 + j.val, by omega⟩

/-- Semaphore 0 is the barrier. -/
theorem kcell_bar (c : Dev nD) : kcell (c, 0) = barCell c := rfl
/-- The number of departure semaphore `j` names it; -/
theorem csem_send (j : Fin 3) : csem (kS j) = .dma (sendS j) := by revert j; decide
/-- so does that of arrival semaphore `j`. -/
theorem csem_recv (j : Fin 3) : csem (kR j) = .dma (recvS j) := by revert j; decide
/-- The same of the departure semaphore of device `c`, -/
theorem kcell_send (j : Fin 3) (c : Dev nD) : kcell (c, kS j) = sendCell j c := congrArg (Prod.mk _) (csem_send j)
/-- and of its arrival semaphore. -/
theorem kcell_recv (j : Fin 3) (c : Dev nD) : kcell (c, kR j) = recvCell j c := congrArg (Prod.mk _) (csem_recv j)

variable (K : Dev nD × Fin 7 → ℕ)

/-- The record: every semaphore's invariant, and that every semaphore has reached its one round. -/
def records : sProp 𝕄 :=
  iprop(bigSep Finset.univ (fun ck : Dev nD × Fin 7 => cellInv ER (xch P) (K ck) (kcell ck))
    ∗ bigSep Finset.univ (fun ck : Dev nD × Fin 7 => reached ER (kcell ck) 0))

omit [FloatOps F] in
/-- The record may be used any number of times. -/
instance records_persistent : BI.Persistent (PROP := sProp 𝕄) (records P K) := by
  unfold records; infer_instance

omit [FloatOps F] in
/-- Of the record: the invariant and the mark of one semaphore. -/
theorem record_of (ck : Dev nD × Fin 7) (g : GSem nD τ sig) (hg : kcell ck = g) :
    (records P K : sProp 𝕄) ⊢ iprop(cellInv ER (xch P) (K ck) g ∗ reached ER g 0) := by
  subst hg
  unfold records
  exact BIClass.sep_mono (bigSep_elim (Finset.mem_univ ck)) (bigSep_elim (Finset.mem_univ ck))

/-! ## The rules -/

section Rules

variable (c : Dev nD)

/-- Signal `i`: pays the peer's barrier one unit and gives the peer leave to write the landing block it sends to. -/
theorem step_signal (i : Fin 3) (n : Dev nD) (hn : n = dst i c) (a : ℤ) (ha : a = ((1 : ℕ) : ℤ)) (W : Waits sig Unit)
    {α : Type} {Q : α → sProp 𝕄} {k : PUnit → Prog (TpuEff nD τ sig (Elt F) Λ₀ .tc) α} :
    iprop(records P K ∗ owes (c : Thread nD τ) (cpyDue c 0 + sigDue c i.val) W
        ∗ dutyTok ER (barCell (dst i c)) 0 (opp i) ∗ slotFree (opp i) c)
      ⊢ iprop((owes (c : Thread nD τ) (cpyDue c 0 + sigDue c (i.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS a) k) Q) := by
  subst hn ha
  iintro ⟨#HR, HO, Ht, Hs⟩
  ihave #Hc := (record_of P K (dst i c, 0) _ (kcell_bar (dst i c))) $$ HR
  icases Hc with ⟨#HI, #Hr⟩
  iapply (Rounds.wp_signal 𝒱₀ ER (xch P) (c : Thread nD τ) none (dst := (dst i c : Thread nD τ)) (κ := K (dst i c, 0))
    (d := opp i) (by rw [duties_bar]; exact Finset.mem_univ _) (amount_bar P (dst i c) (opp i)) ()
    (O₀ := cpyDue c 0 + sigDue c i.val) (cpyDue c 0 + sigDue c (i.val + 1))
    (by unfold sigDue; rw [dueBy_step (fun j => barCell (dst j c)) 1 i, add_assoc]))
  isplitr; · iexact HI
  isplitl [HO]; · iexact HO
  isplitl [Ht]; · iexact Ht
  isplitl [Hs]
  · rw [payload_bar, dst_opp_dst]; iexact Hs
  iexact Hr

/-- The barrier wait: the three peers' landing blocks, to be written. -/
theorem step_barrier (a : ℤ) (ha : a = ((3 : ℕ) : ℤ)) (W : Waits sig Unit)
    {α : Type} {Q : α → sProp 𝕄} {k : PUnit → Prog (TpuEff nD τ sig (Elt F) Λ₀ .tc) α} :
    iprop(records P K ∗ levAts L lv ∗ owes (c : Thread nD τ) (cpyDue c 0 + sigDue c 3) W
        ∗ cred (tallyAt (barCell c) () 3) ∗ atPos ER (barCell c) 0 ∅ 0)
      ⊢ iprop(((owes (c : Thread nD τ) (cpyDue c 0) (insert (SemLoc.reg barS, ()) W) ∗ atPos ER (barCell c) (0 + 1) ∅ 0
              ∗ slotFree 0 (dst 0 c) ∗ slotFree 1 (dst 1 c) ∗ slotFree 2 (dst 2 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  rw [show cpyDue c 0 + sigDue c 3 = cpyDue c 0 by unfold sigDue; rw [dueBy_three, add_zero]]
  iintro ⟨#HR, #Hlev, HO, Hcr, Hat⟩ Hk
  ihave #Hc := (record_of P K (c, 0) _ (kcell_bar c)) $$ HR
  icases Hc with ⟨#HI, #Hr⟩
  iapply (Rounds.wp_wait_rest_token 𝒱₀ ER (xch P) (c : Thread nD τ) none (κ := K (c, 0))
    (wpE_semWait_eq 𝒱₀ (c : Thread nD τ) none Set.univ) (Set.mem_univ _) () (O := cpyDue c 0) (W := W) (R := 0) (m := 0) (T := ∅)
    (by rw [expect_bar])) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hp := (Entails.of_eq (rest_bar P c)) $$ Hpay
  iapply Hk
  isplitl [HO]; · iexact HO
  isplitl [Hat]; · iexact Hat
  iexact Hp

/-- Copy `j`: writes this device's block into landing block `j` of the peer, reading it under share `j`. -/
theorem step_copy (j : Fin 3) (n : Dev nD) (hn : n = dst j c) (m : Memref sig .tc .vmem S256x256 .f32) (hm : m = slotM j)
    (sS rS : DmaSem sig) (hS : sS = sendS j) (hR : rS = recvS j)
    {hsc : (m : Memref sig (Dev.tc n : Thread nD τ).2.kind .vmem S256x256 .f32).view.ref.isScScratch = false}
    {hsrc : (srcM : Memref sig .tc .vmem S256x256 .f32).view.WordExact} {hdst : m.view.WordExact}
    {hsem : DmaTarget.Typed .vmem (.dma rS) (.remote (Dev.tc n : Thread nD τ) m (.dma sS) hsc)} (W : Waits sig Unit)
    {α : Type} {Q : α → sProp 𝕄} {k : PUnit → Prog (TpuEff nD τ sig (Elt F) Λ₀ .tc) α} :
    iprop(records P K ∗ owes (c : Thread nD τ) (cpyDue c j.val) W ∗ srcPts (shr j) c (P c) ∗ slotFree j (dst j c)
        ∗ dutyTok ER (sendCell j c) 0 0 ∗ dutyTok ER (recvCell j (dst j c)) 0 0)
      ⊢ iprop(((cred (tallyAt (sendCell j c) () N) ∗ owes (c : Thread nD τ) (cpyDue c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) m (.dma sS) hsc) (.dma rS) hsrc hdst hsem) k) Q) := by
  subst hn hm hS hR
  unfold slotFree slotPts srcPts
  iintro ⟨#HR, HO, Hsrc, ⟨%fd, Hdst⟩, HtS, HtR⟩
  ihave #Hc := (record_of P K (c, kS j) _ (kcell_send j c)) $$ HR
  icases Hc with ⟨#HIs, #Hrs⟩
  ihave #Hc' := (record_of P K (dst j c, kR j) _ (kcell_recv j (dst j c))) $$ HR
  icases Hc' with ⟨#HIr, #Hrr⟩
  iapply (Rounds.wp_send_pointsTo 𝒱₀ ER (xch P) (c : Thread nD τ) none (κ₁ := K (c, kS j)) (κ₂ := K (dst j c, kR j))
    (r₁ := 0) (r₂ := 0) (d₁ := 0) (d₂ := 0) (fd := fd)
    (by rw [duties_dma]; exact Finset.mem_singleton_self _) (by rw [duties_dma]; exact Finset.mem_singleton_self _)
    () () N rfl (amount_dma P c 0 (sendS j)) (amount_dma P (dst j c) 0 (recvS j)) (O₀ := cpyDue c j.val) (cpyDue c (j.val + 1))
    (dueBy_step (fun j => recvCell j (dst j c)) N j) (W := W)
    (by rw [payload_send]; exact BI.Entails.refl _)
    (by
      rw [payload_recv, org, dst_opp_dst]
      unfold slotHolds slotPts
      iintro H
      iexists ((slotM j : Memref sig .tc .vmem S256x256 .f32).view.write (Elt F) fd
        ((srcM : Memref sig .tc .vmem S256x256 .f32).view.read (Elt F) (P c)) Finset.univ)
      isplitr
      · ipureintro; exact View.read_write_univ _ _
      iexact H))
  isplitr; · iexact HIs
  isplitr; · iexact HIr
  isplitl [Hsrc]; · iexact Hsrc
  isplitl [Hdst]; · iexact Hdst
  isplitl [HO]; · iexact HO
  isplitl [HtS]; · iexact HtS
  isplitr; · iexact Hrs
  isplitl [HtR]; · iexact HtR
  iexact Hrr

/-- The arrival wait `j`: the landing block, holding what the peer sent. -/
theorem step_arrival (j : Fin 3) {sp sp' : Space} {s s' : Shape} {e e' : EltTy} (sem : DmaSem sig) (hs : sem = recvS j)
    {src : Memref sig .tc sp' s' e'} {m : Memref sig .tc sp s e} (hm : m.view.dmaCredit = N)
    {hsrc : src.view.WordExact} {hdst : m.view.WordExact} (W : Waits sig Unit)
    {α : Type} {Q : α → sProp 𝕄} {k : PUnit → Prog (TpuEff nD τ sig (Elt F) Λ₀ .tc) α} :
    iprop(records P K ∗ owes (c : Thread nD τ) 0 W ∗ cred (tallyAt (recvCell j c) () N) ∗ atPos ER (recvCell j c) 0 ∅ 0)
      ⊢ iprop(((owes (c : Thread nD τ) 0 (insert (SemLoc.dma (recvS j), ()) W) ∗ atPos ER (recvCell j c) (0 + 1) ∅ 0
              ∗ slotHolds j c (P (org j c)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src m hsrc hdst) k) Q) := by
  subst hs
  iintro ⟨#HR, HO, Hcr, Hat⟩ Hk
  ihave #Hc := (record_of P K (c, kR j) _ (kcell_recv j c)) $$ HR
  icases Hc with ⟨#HI, #Hr⟩
  iapply (Rounds.wp_wait_rest_token 𝒱₀ ER (xch P) (c : Thread nD τ) none (κ := K (c, kR j)) (k' := N)
    (fun Kk => by rw [← hm]; exact wpE_waitDma2_eq 𝒱₀ (c : Thread nD τ) none Set.univ Kk) (Set.mem_univ _) ()
    (O := 0) (W := W) (R := 0) (m := 0) (T := ∅) (by rw [Nat.zero_add, expect_dma])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_recv P c j)) $$ Hpay
  iapply Hk
  isplitl [HO]; · iexact HO
  isplitl [Hat]; · iexact Hat
  iexact Hp

/-- The departure wait `j`: share `j` of the sent block again. -/
theorem step_departure (j : Fin 3) {sp sp' : Space} {s s' : Shape} {e e' : EltTy} (sem : DmaSem sig) (hs : sem = sendS j)
    {src : Memref sig .tc sp' s' e'} {m : Memref sig .tc sp s e} (hm : m.view.dmaCredit = N)
    {hsrc : src.view.WordExact} {hdst : m.view.WordExact} (W : Waits sig Unit)
    {α : Type} {Q : α → sProp 𝕄} {k : PUnit → Prog (TpuEff nD τ sig (Elt F) Λ₀ .tc) α} :
    iprop(records P K ∗ owes (c : Thread nD τ) 0 W ∗ cred (tallyAt (sendCell j c) () N) ∗ atPos ER (sendCell j c) 0 ∅ 0)
      ⊢ iprop(((owes (c : Thread nD τ) 0 (insert (SemLoc.dma (sendS j), ()) W) ∗ atPos ER (sendCell j c) (0 + 1) ∅ 0
              ∗ srcPts (shr j) c (P c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sem src m hsrc hdst) k) Q) := by
  subst hs
  iintro ⟨#HR, HO, Hcr, Hat⟩ Hk
  ihave #Hc := (record_of P K (c, kS j) _ (kcell_send j c)) $$ HR
  icases Hc with ⟨#HI, #Hr⟩
  iapply (Rounds.wp_wait_rest_token 𝒱₀ ER (xch P) (c : Thread nD τ) none (κ := K (c, kS j)) (k' := N)
    (fun Kk => by rw [← hm]; exact wpE_waitDma2_eq 𝒱₀ (c : Thread nD τ) none Set.univ Kk) (Set.mem_univ _) ()
    (O := 0) (W := W) (R := 0) (m := 0) (T := ∅) (by rw [Nat.zero_add, expect_dma])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_send P c j)) $$ Hpay
  iapply Hk
  isplitl [HO]; · iexact HO
  isplitl [Hat]; · iexact Hat
  iexact Hp

end Rules

omit [FloatOps F] in
/-- A semaphore whose round is over is closed: its counter is zero and its owner's again. -/
theorem step_close (ck : Dev nD × Fin 7) (g : GSem nD τ sig) (hg : kcell ck = g) :
    (iprop(records P K ∗ atPos ER g (0 + 1) ∅ 0) : sProp 𝕄) ⊢ |={Set.univ}=> semVal g 0 := by
  iintro ⟨#HR, Hat⟩
  ihave #Hc := (record_of P K ck g hg) $$ HR
  icases Hc with ⟨#HI, #Hr⟩
  imod (Rounds.cell_close ER (xch P) (Set.mem_univ (K ck)) (fun h => h) (R := 0 + 1) (duties_later P g)) $$ [Hat] with Hz
  · isplitr; · iexact HI
    iexact Hat
  imodintro; iexact Hz

end Cert.AllToAll

end
-- ==== Proof.Blocks.lean ====
/-
# Blocks: what each device computes and sends

A device works on its own slices of the weights: from them and the activations, which every device holds whole, it
computes one block (`part`), and sends that block to every other device. Its result is its own block plus the three it
receives (`total`).
-/
module

public import proofs.«01_k».proof.Proof.Steps
public import Idealize.ShloMosaic.Lib.Pipeline.Value

@[expose] public section

noncomputable section

namespace Cert.AllToAll

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The staged arguments of device `c`: the activations, -/
def actB (c : Dev nD) : (cc0_stg0_0 : Ref sig .tc).ty.Contents (Elt F) :=
  (win0_0.blk (0 : Fin 1)).view.read (Elt F) (m ((c : Thread nD τ).loc main_arg0))
/-- its columns of the gate weights, -/
def gateB (c : Dev nD) : (cc0_stg1_0 : Ref sig .tc).ty.Contents (Elt F) :=
  (win0_1.blk (0 : Fin 1)).view.read (Elt F) (m ((c : Thread nD τ).loc main_arg1))
/-- its columns of the up weights, -/
def upB (c : Dev nD) : (cc0_stg2_0 : Ref sig .tc).ty.Contents (Elt F) :=
  (win0_2.blk (0 : Fin 1)).view.read (Elt F) (m ((c : Thread nD τ).loc main_arg2))
/-- its rows of the down weights. -/
def downB (c : Dev nD) : (cc0_stg3_0 : Ref sig .tc).ty.Contents (Elt F) :=
  (win0_3.blk (0 : Fin 1)).view.read (Elt F) (m ((c : Thread nD τ).loc main_arg3))

/-- The block device `c` computes from its slices. -/
def part (c : Dev nD) : Block F :=
  k0_pay4 (k0_pay1 (actB m c)) (k0_pay2 (actB m c) (gateB m c)) (k0_pay3 (upB m c)) (downB m c)

/-- The block is sent as it was computed. -/
theorem pay5_eq (v20 : FVec F S256x256 .f32) (v23 v25 : FVec F S256x512 .f32) (v30 : Vec F S512x256 .f32) :
    k0_pay5 v20 v23 v25 v30 = k0_pay4 v20 v23 v25 v30 := shapeCast_self _ _

/-- Adding a received block to what the result block holds, as the program writes it the first time, -/
theorem pay6_eq (x : Vec F S256x256 .f32) (y : Vec F S1x256x256 .f32) :
    k0_pay6 x y = addf x (shapeCast S256x256 y shapeCasts_S1x256x256_S256x256) :=
  congrArg (fun z => addf z _) (shapeCast_self x _)
/-- the second, -/
theorem pay9_eq (x : Vec F S256x256 .f32) (y : Vec F S1x256x256 .f32) :
    k0_pay9 (k0_pay7 x) (k0_pay8 y) = addf x (shapeCast S256x256 y shapeCasts_S1x256x256_S256x256) :=
  congrArg (fun z => addf z _) (shapeCast_self x _)
/-- and the third. -/
theorem pay10_eq (x : Vec F S256x256 .f32) (y : Vec F S1x256x256 .f32) :
    k0_pay10 x y = addf x (shapeCast S256x256 y shapeCasts_S1x256x256_S256x256) :=
  congrArg (fun z => addf z _) (shapeCast_self x _)

/-- Device `c`'s result: its own block and the three received, added in the order of the exchanges. -/
def total (c : Dev nD) : Block F :=
  addf (addf (addf (part m c) (part m (org 0 c))) (part m (org 1 c))) (part m (org 2 c))

end Cert.AllToAll

end
-- ==== Proof.Body.lean ====
/-
# Body: one device's run of the kernel

From the record of the semaphores, its tokens and its buffers, a device runs the kernel's body to the end: it signals
its peers and waits for theirs, computes its block, sends it three times, adds the three blocks it receives to its own,
and waits until its copies have been read. It ends with its result block and every semaphore of the exchange at zero.
-/
module

public import proofs.«01_k».proof.Proof.Blocks
public import proofs.«01_k».proof.Proof.Gen.KernelIdeal.Points

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Loads and stores of whole buffers -/

/-- The two-axis offset of zeros, as a function. -/
theorem zeros : (![0, 0] : Fin 2 → ℕ) = fun _ => 0 := funext fun a => by fin_cases a <;> rfl

/-- The whole of a square block. -/
abbrev rSq : Rect S256x256 := Rect.unit (s := S256x256) ![0, 0] S256x256.size inb_S256x256_S256x256_0_0
/-- The whole of a block of a first weight. -/
abbrev rWide : Rect S256x512 := Rect.unit (s := S256x512) ![0, 0] S256x512.size inb_S256x512_S256x512_0_0
/-- The whole of a block of the last weight. -/
abbrev rTall : Rect S512x256 := Rect.unit (s := S512x256) ![0, 0] S512x256.size inb_S512x256_S512x256_0_0

omit [FloatOps F] in
/-- Loading a whole buffer gives its contents: the activations', -/
theorem load_act (f : (cc0_stg0_0 : Ref sig .tc).ty.Contents (Elt F)) :
    (Memref.whole cc0_stg0_0 : Memref sig .tc .vmem S256x256 .f32).view.readAt (Elt F) rSq.toLoadRect f = f :=
  Memref.readAt_unit_zero (Elt F) cc0_stg0_0 zeros _ f
omit [FloatOps F] in
/-- the gate weight's, -/
theorem load_gate (f : (cc0_stg1_0 : Ref sig .tc).ty.Contents (Elt F)) :
    (Memref.whole cc0_stg1_0 : Memref sig .tc .vmem S256x512 .f32).view.readAt (Elt F) rWide.toLoadRect f = f :=
  Memref.readAt_unit_zero (Elt F) cc0_stg1_0 zeros _ f
omit [FloatOps F] in
/-- the up weight's, -/
theorem load_up (f : (cc0_stg2_0 : Ref sig .tc).ty.Contents (Elt F)) :
    (Memref.whole cc0_stg2_0 : Memref sig .tc .vmem S256x512 .f32).view.readAt (Elt F) rWide.toLoadRect f = f :=
  Memref.readAt_unit_zero (Elt F) cc0_stg2_0 zeros _ f
omit [FloatOps F] in
/-- the last weight's, -/
theorem load_down (f : (cc0_stg3_0 : Ref sig .tc).ty.Contents (Elt F)) :
    (Memref.whole cc0_stg3_0 : Memref sig .tc .vmem S512x256 .f32).view.readAt (Elt F) rTall.toLoadRect f = f :=
  Memref.readAt_unit_zero (Elt F) cc0_stg3_0 zeros _ f
omit [FloatOps F] in
/-- and the result's. -/
theorem load_out (f : (cc0_stg4_0 : Ref sig .tc).ty.Contents (Elt F)) :
    (outM : Memref sig .tc .vmem S256x256 .f32).view.readAt (Elt F) rSq.toLoadRect f = f :=
  Memref.readAt_unit_zero (Elt F) cc0_stg4_0 zeros _ f
omit [FloatOps F] in
/-- Storing the whole of the result's buffer replaces its contents. -/
theorem store_out (f w : (cc0_stg4_0 : Ref sig .tc).ty.Contents (Elt F)) :
    ((outM : Memref sig .tc .vmem S256x256 .f32).access rSq : View sig .tc _ _ _).write (Elt F) f w Finset.univ = w :=
  Memref.write_access_unit_zero_univ (Elt F) cc0_stg4_0 zeros _ f w
omit [FloatOps F] in
/-- So does storing the whole of the block to send. -/
theorem store_src (f w : (cc0_scratch0 : Ref sig .tc).ty.Contents (Elt F)) :
    ((srcM : Memref sig .tc .vmem S256x256 .f32).access rSq : View sig .tc _ _ _).write (Elt F) f w Finset.univ = w :=
  Memref.write_access_unit_zero_univ (Elt F) cc0_scratch0 zeros _ f w

/-- Loading a landing block that holds `X`: what is loaded is `X` once its axis of extent one is dropped. -/
theorem step_load_slot (c : Dev nD) (j : Fin 3) (X : Block F) {hl : (recvM : Memref sig .tc .vmem S3x256x256 .f32).view.LoadsAt (slotR j).toLoadRect}
    {α : Type} {Q : α → sProp 𝕄} {k : Vec F S1x256x256 .f32 → Prog (TpuEff nD τ sig (Elt F) Λ₀ .tc) α} :
    (slotHolds j c X : sProp 𝕄)
      ⊢ iprop((∀ v, ⌜shapeCast S256x256 v shapeCasts_S1x256x256_S256x256 = X⌝ -∗ slotHolds j c X
            -∗ wp frame (wpE (defs₀ (F := F)) 𝒱₀ (c : Thread nD τ) none) Set.univ (k v) Q)
          -∗ wp frame (wpE (defs₀ (F := F)) 𝒱₀ (c : Thread nD τ) none) Set.univ
              (.op (.load recvM (slotR j).toLoadRect hl) k) Q) := by
  unfold slotHolds
  iintro ⟨%f, %hf, H⟩ Hk
  ihave H' := (Entails.of_eq (slotPts_eq j c f)) $$ H
  iapply (wp_load 𝒱₀ (c : Thread nD τ) none Set.univ (m := recvM)
    (((View.set_slice (View.whole cc0_scratch1) (slotR j)).symm.trans (View.set_slice_whole cc0_scratch1 (slotR j))).subset)) $$ H'
  iintro H'
  iapply Hk
  · ipureintro; exact (load_slot j f _).trans hf
  iexists f; isplitr; · ipureintro; exact hf
  iapply (Entails.of_eq (slotPts_eq j c f).symm); iexact H'

/-- The block, once stored to be sent, in its three shares. -/
theorem sent_stored (c : Dev nD) :
    (((srcM : Memref sig .tc .vmem S256x256 .f32).access rSq : View sig .tc _ _ _).loc (c : Thread nD τ) ↦{fullShare}
        (k0_pay4 (k0_pay1 (actB m c)) (k0_pay2 (actB m c) (gateB m c)) (k0_pay3 (upB m c)) (downB m c)))
      ⊢ (iprop(srcPts (shr 0) c (part m c) ∗ srcPts (shr 1) c (part m c) ∗ srcPts (shr 2) c (part m c)) : sProp 𝕄) :=
  sent_split c (part m c)

/-! ## What a device starts from and ends with -/

/-- For one exchange: its two semaphores at their round, the tokens for the three duties the device performs in it, and
    the credit for the block that arrives. -/
def exch (j : Fin 3) (c : Dev nD) : sProp 𝕄 :=
  iprop(atPos ER (sendCell j c) 0 ∅ 0 ∗ atPos ER (recvCell j c) 0 ∅ 0
    ∗ dutyTok ER (barCell (dst j c)) 0 (opp j) ∗ dutyTok ER (sendCell j c) 0 0 ∗ dutyTok ER (recvCell j (dst j c)) 0 0
    ∗ cred (tallyAt (recvCell j c) () N))

/-- What a device's run starts from, beside its buffers. -/
def start (c : Dev nD) : sProp 𝕄 :=
  iprop((∃ K, records (part m) K) ∗ levAts L lv ∗ atPos ER (barCell c) 0 ∅ 0 ∗ cred (tallyAt (barCell c) () 3)
    ∗ exch 0 c ∗ exch 1 c ∗ exch 2 c)

/-- The two buffers of the exchange, at any contents. -/
def bufs (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- The semaphores of one exchange, at zero. -/
def done (j : Fin 3) (c : Dev nD) : sProp 𝕄 := iprop(semVal (sendCell j c) 0 ∗ semVal (recvCell j c) 0)

/-- What a device holds before the body, -/
def Φ₀ (c : Dev nD) : sProp 𝕄 := iprop(start m c ∗ bufs c)
/-- and after it: the two buffers, and its seven semaphores at zero. -/
def Φ₁ (c : Dev nD) : sProp 𝕄 := iprop(bufs c ∗ semVal (barCell c) 0 ∗ done 0 c ∗ done 1 c ∗ done 2 c)

/-- The run's data: each array's contents at the start, what the body leaves in each staging buffer, what is held and
    owed before and after the body. -/
def dats (_ : Fin 1) (c : Dev nD) : Dat τ (Elt F) Unit ℕ UU ℕ cfg0 c where
  A w := m ((cfg0.win w).arr.view.loc (c : Thread nD τ))
  after w _ := match w with
    | ⟨0, _⟩ => actB m c
    | ⟨1, _⟩ => gateB m c
    | ⟨2, _⟩ => upB m c
    | ⟨3, _⟩ => downB m c
    | ⟨4, _⟩ => total m c
  Φ t := match t with
    | ⟨0, _⟩ => Φ₀ m c
    | ⟨_ + 1, _⟩ => Φ₁ c
  q _ := fullShare
  owed t := match t with
    | ⟨0, _⟩ => owed₀ c
    | ⟨_ + 1, _⟩ => 0

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- Owning a whole staging buffer at contents `X` is holding it at `X`. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Before the body, given the start's pieces at names `K`; -/
def before (K : Dev nD × Fin 7 → ℕ) (c : Dev nD) : sProp 𝕄 :=
  iprop((records (part m) K ∗ levAts L lv ∗ atPos ER (barCell c) 0 ∅ 0 ∗ cred (tallyAt (barCell c) () 3) ∗ exch 0 c ∗ exch 1 c ∗ exch 2 c)
    ∗ bufs c ∗ (dats m 0 c).owesAt () t0_0.castSucc
    ∗ stg c cc0_stg0_0 (actB m c) ∗ stg c cc0_stg1_0 (gateB m c) ∗ stg c cc0_stg2_0 (upB m c) ∗ stg c cc0_stg3_0 (downB m c)
    ∗ ∃ d, stg c cc0_stg4_0 d)
/-- after it. -/
def after (c : Dev nD) : sProp 𝕄 :=
  iprop(Φ₁ c ∗ (dats m 0 c).owesAt () t0_0.succ
    ∗ stg c cc0_stg0_0 (actB m c) ∗ stg c cc0_stg1_0 (gateB m c) ∗ stg c cc0_stg2_0 (upB m c) ∗ stg c cc0_stg3_0 (downB m c)
    ∗ stg c cc0_stg4_0 (total m c))

set_option maxHeartbeats 4000000 in
set_option maxRecDepth 8000 in
/-- The body runs from `before` to `after`. -/
theorem body_runs (K : Dev nD × Fin 7 → ℕ) (c : Dev nD) (Kt : PUnit → sProp 𝕄) :
    iprop(before m K c ∗ (after m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold before exch bufs stg
  iintro ⟨⟨⟨#HR, #Hlev, HatB, HcB, ⟨HatS0, HatR0, HtB0, HtS0, HtR0, HcR0⟩, ⟨HatS1, HatR1, HtB1, HtS1, HtR1, HcR1⟩,
      ⟨HatS2, HatR2, HtB2, HtS2, HtR2, HcR2⟩⟩, ⟨⟨%fs, Hsrc⟩, Hland⟩, Ho, ⟨%g0, %hg0, Hact⟩, ⟨%g1, %hg1, Hgate⟩, ⟨%g2, %hg2, Hup⟩,
      ⟨%g3, %hg3, Hdown⟩, ⟨%d4, %g4, %hg4, Hout⟩⟩, Hk⟩
  subst hg0 hg1 hg2 hg3
  unfold Dat.owesAt Pipeline.owesWithin
  icases Ho with ⟨%W, %hW, HO⟩
  rw [show (dats m 0 c).owed t0_0.castSucc = cpyDue c 0 + sigDue c 0 from rfl]
  ihave Hland := (landing_split c) $$ Hland
  icases Hland with ⟨Hl0, Hl1, Hl2⟩
  -- the signals to the three peers
  iapply (step_signal (part m) K c 0 _ (dev1_eq c) _ (by decide) W) $$ [HO HtB0 Hl1]
  · isplitr; · iexact HR
    isplitl [HO]; · iexact HO
    isplitl [HtB0]; · iexact HtB0
    iexact Hl1
  iintro HO
  iapply (step_signal (part m) K c 1 _ (dev2_eq c) _ (by decide) W) $$ [HO HtB1 Hl0]
  · isplitr; · iexact HR
    isplitl [HO]; · iexact HO
    isplitl [HtB1]; · iexact HtB1
    iexact Hl0
  iintro HO
  iapply (step_signal (part m) K c 2 _ (dev3_eq c) _ (by decide) W) $$ [HO HtB2 Hl2]
  · isplitr; · iexact HR
    isplitl [HO]; · iexact HO
    isplitl [HtB2]; · iexact HtB2
    iexact Hl2
  iintro HO
  -- the wait for the three peers: their landing blocks
  iapply (step_barrier (part m) K c _ (by decide) W) $$ [HO HcB HatB]
  · isplitr; · iexact HR
    isplitr; · iexact Hlev
    isplitl [HO]; · iexact HO
    isplitl [HcB]; · iexact HcB
    iexact HatB
  iintro ⟨HO, HatB, Hd0, Hd1, Hd2⟩
  -- the device's block
  iapply (wp_load 𝒱₀ (c : Thread nD τ) none Set.univ (m := Memref.whole cc0_stg0_0) (Finset.subset_univ _)) $$ Hact; iintro Hact
  rw [load_act]
  iapply (wp_load 𝒱₀ (c : Thread nD τ) none Set.univ (m := Memref.whole cc0_stg1_0) (Finset.subset_univ _)) $$ Hgate; iintro Hgate
  rw [load_gate]
  iapply (wp_load 𝒱₀ (c : Thread nD τ) none Set.univ (m := Memref.whole cc0_stg2_0) (Finset.subset_univ _)) $$ Hup; iintro Hup
  rw [load_up]
  iapply (wp_load 𝒱₀ (c : Thread nD τ) none Set.univ (m := Memref.whole cc0_stg3_0) (Finset.subset_univ _)) $$ Hdown; iintro Hdown
  rw [load_down]
  iapply (wp_load 𝒱₀ (c : Thread nD τ) none Set.univ (m := srcM) (Finset.subset_univ _)) $$ Hsrc; iintro Hsrc
  iapply (wp_store 𝒱₀ (c : Thread nD τ) none Set.univ (m := srcM) (r := rSq) (Mk := Finset.univ) (Finset.subset_univ _)) $$ Hsrc; iintro Hsrc
  rw [store_src, pay5_eq]
  ihave Hsrc := (sent_stored m c) $$ Hsrc
  icases Hsrc with ⟨Hp0, Hp1, Hp2⟩
  -- the copies to the three peers
  iapply (step_copy (part m) K c 0 _ (dev4_eq c) _ rfl _ _ (send_slice 0 _) (recv_slice 0 _) (insert (SemLoc.reg barS, ()) W)) $$ [HO Hp0 Hd0 HtS0 HtR0]
  · isplitr; · iexact HR
    isplitl [HO]; · iexact HO
    isplitl [Hp0]; · iexact Hp0
    isplitl [Hd0]; · iexact Hd0
    isplitl [HtS0]; · iexact HtS0
    iexact HtR0
  iintro ⟨HcS0, HO⟩
  iapply (step_copy (part m) K c 1 _ (dev5_eq c) _ rfl _ _ (send_slice 1 _) (recv_slice 1 _) (insert (SemLoc.reg barS, ()) W)) $$ [HO Hp1 Hd1 HtS1 HtR1]
  · isplitr; · iexact HR
    isplitl [HO]; · iexact HO
    isplitl [Hp1]; · iexact Hp1
    isplitl [Hd1]; · iexact Hd1
    isplitl [HtS1]; · iexact HtS1
    iexact HtR1
  iintro ⟨HcS1, HO⟩
  iapply (step_copy (part m) K c 2 _ (dev6_eq c) _ rfl _ _ (send_slice 2 _) (recv_slice 2 _) (insert (SemLoc.reg barS, ()) W)) $$ [HO Hp2 Hd2 HtS2 HtR2]
  · isplitr; · iexact HR
    isplitl [HO]; · iexact HO
    isplitl [Hp2]; · iexact Hp2
    isplitl [Hd2]; · iexact Hd2
    isplitl [HtS2]; · iexact HtS2
    iexact HtR2
  iintro ⟨HcS2, HO⟩
  ihave HO := (Entails.of_eq (show (owes (c : Thread nD τ) (cpyDue c ((2 : Fin 3).val + 1)) (insert (SemLoc.reg barS, ()) W) : sProp 𝕄)
    = owes (c : Thread nD τ) 0 (insert (SemLoc.reg barS, ()) W) by unfold cpyDue; exact congrArg (fun O => owes (c : Thread nD τ) O _) (dueBy_three _ _))) $$ HO
  -- the result block: the device's own, then each received block added
  iapply (wp_load 𝒱₀ (c : Thread nD τ) none Set.univ (m := outM) (Finset.subset_univ _)) $$ Hout; iintro Hout
  iapply (wp_store 𝒱₀ (c : Thread nD τ) none Set.univ (m := outM) (r := rSq) (Mk := Finset.univ) (Finset.subset_univ _)) $$ Hout; iintro Hout
  rw [store_out]
  iapply (step_arrival (part m) K c 0 _ (recv_slice 0 _) (m := slotM 0) (slot_credit 0) _) $$ [HO HcR0 HatR0]
  · isplitr; · iexact HR
    isplitl [HO]; · iexact HO
    isplitl [HcR0]; · iexact HcR0
    iexact HatR0
  iintro ⟨HO, HatR0, Hl0⟩
  iapply (wp_load 𝒱₀ (c : Thread nD τ) none Set.univ (m := outM) (Finset.subset_univ _)) $$ Hout; iintro Hout
  rw [load_out]
  iapply (step_load_slot c 0 (part m (org 0 c))) $$ Hl0
  iintro %v0 %hv0 Hl0
  iapply (wp_load 𝒱₀ (c : Thread nD τ) none Set.univ (m := outM) (Finset.subset_univ _)) $$ Hout; iintro Hout
  iapply (wp_store 𝒱₀ (c : Thread nD τ) none Set.univ (m := outM) (r := rSq) (Mk := Finset.univ) (Finset.subset_univ _)) $$ Hout; iintro Hout
  rw [store_out]
  rw [pay6_eq, hv0]
  iapply (step_arrival (part m) K c 1 _ (recv_slice 1 _) (m := slotM 1) (slot_credit 1) _) $$ [HO HcR1 HatR1]
  · isplitr; · iexact HR
    isplitl [HO]; · iexact HO
    isplitl [HcR1]; · iexact HcR1
    iexact HatR1
  iintro ⟨HO, HatR1, Hl1⟩
  iapply (wp_load 𝒱₀ (c : Thread nD τ) none Set.univ (m := outM) (Finset.subset_univ _)) $$ Hout; iintro Hout
  rw [load_out]
  iapply (step_load_slot c 1 (part m (org 1 c))) $$ Hl1
  iintro %v1 %hv1 Hl1
  iapply (wp_load 𝒱₀ (c : Thread nD τ) none Set.univ (m := outM) (Finset.subset_univ _)) $$ Hout; iintro Hout
  iapply (wp_store 𝒱₀ (c : Thread nD τ) none Set.univ (m := outM) (r := rSq) (Mk := Finset.univ) (Finset.subset_univ _)) $$ Hout; iintro Hout
  rw [store_out]
  rw [pay9_eq, hv1]
  iapply (step_arrival (part m) K c 2 _ (recv_slice 2 _) (m := slotM 2) (slot_credit 2) _) $$ [HO HcR2 HatR2]
  · isplitr; · iexact HR
    isplitl [HO]; · iexact HO
    isplitl [HcR2]; · iexact HcR2
    iexact HatR2
  iintro ⟨HO, HatR2, Hl2⟩
  iapply (wp_load 𝒱₀ (c : Thread nD τ) none Set.univ (m := outM) (Finset.subset_univ _)) $$ Hout; iintro Hout
  rw [load_out]
  iapply (step_load_slot c 2 (part m (org 2 c))) $$ Hl2
  iintro %v2 %hv2 Hl2
  iapply (wp_load 𝒱₀ (c : Thread nD τ) none Set.univ (m := outM) (Finset.subset_univ _)) $$ Hout; iintro Hout
  iapply (wp_store 𝒱₀ (c : Thread nD τ) none Set.univ (m := outM) (r := rSq) (Mk := Finset.univ) (Finset.subset_univ _)) $$ Hout; iintro Hout
  rw [store_out]
  rw [pay10_eq, hv2]
  -- the copies have been read
  iapply (step_departure (part m) K c 0 _ (send_slice 0 _) (m := srcM) rfl _) $$ [HO HcS0 HatS0]
  · isplitr; · iexact HR
    isplitl [HO]; · iexact HO
    isplitl [HcS0]; · iexact HcS0
    iexact HatS0
  iintro ⟨HO, HatS0, Hp0⟩
  iapply (step_departure (part m) K c 1 _ (send_slice 1 _) (m := srcM) rfl _) $$ [HO HcS1 HatS1]
  · isplitr; · iexact HR
    isplitl [HO]; · iexact HO
    isplitl [HcS1]; · iexact HcS1
    iexact HatS1
  iintro ⟨HO, HatS1, Hp1⟩
  iapply (step_departure (part m) K c 2 _ (send_slice 2 _) (m := srcM) rfl _) $$ [HO HcS2 HatS2]
  · isplitr; · iexact HR
    isplitl [HO]; · iexact HO
    isplitl [HcS2]; · iexact HcS2
    iexact HatS2
  iintro ⟨HO, HatS2, Hp2⟩
  -- every semaphore of the exchange is closed
  imod (step_close (part m) K (c, 0) _ (kcell_bar c)) $$ [HatB] with HzB
  · isplitr; · iexact HR
    iexact HatB
  imod (step_close (part m) K (c, kS 0) _ (kcell_send 0 c)) $$ [HatS0] with HzS0
  · isplitr; · iexact HR
    iexact HatS0
  imod (step_close (part m) K (c, kR 0) _ (kcell_recv 0 c)) $$ [HatR0] with HzR0
  · isplitr; · iexact HR
    iexact HatR0
  imod (step_close (part m) K (c, kS 1) _ (kcell_send 1 c)) $$ [HatS1] with HzS1
  · isplitr; · iexact HR
    iexact HatS1
  imod (step_close (part m) K (c, kR 1) _ (kcell_recv 1 c)) $$ [HatR1] with HzR1
  · isplitr; · iexact HR
    iexact HatR1
  imod (step_close (part m) K (c, kS 2) _ (kcell_send 2 c)) $$ [HatS2] with HzS2
  · isplitr; · iexact HR
    iexact HatS2
  imod (step_close (part m) K (c, kR 2) _ (kcell_recv 2 c)) $$ [HatR2] with HzR2
  · isplitr; · iexact HR
    iexact HatR2
  rw [wp_ret]; imodintro
  iapply Hk
  unfold after Φ₁ bufs done Dat.owesAt Pipeline.owesWithin
  rw [show (dats m 0 c).owed t0_0.succ = 0 from rfl]
  isplitl [Hp0 Hp1 Hp2 Hl0 Hl1 Hl2 HzB HzS0 HzR0 HzS1 HzR1 HzS2 HzR2]
  · isplitl [Hp0 Hp1 Hp2 Hl0 Hl1 Hl2]
    · isplitl [Hp0 Hp1 Hp2]
      · iexists (part m c)
        iapply (sent_join c (part m c))
        isplitl [Hp0]; · iexact Hp0
        isplitl [Hp1]; · iexact Hp1
        iexact Hp2
      · iapply (landing_join c)
        isplitl [Hl0]; · iapply (slotHolds_free 0 c _); iexact Hl0
        isplitl [Hl1]; · iapply (slotHolds_free 1 c _); iexact Hl1
        iapply (slotHolds_free 2 c _); iexact Hl2
    isplitl [HzB]; · iexact HzB
    isplitl [HzS0 HzR0]; · isplitl [HzS0] <;> iassumption
    isplitl [HzS1 HzR1]; · isplitl [HzS1] <;> iassumption
    isplitl [HzS2] <;> iassumption
  isplitl [HO]
  · iexists (insert (SemLoc.dma (sendS 2), ()) (insert (SemLoc.dma (sendS 1), ()) (insert (SemLoc.dma (sendS 0), ())
        (insert (SemLoc.dma (recvS 2), ()) (insert (SemLoc.dma (recvS 1), ()) (insert (SemLoc.dma (recvS 0), ()) (insert (SemLoc.reg barS, ()) W)))))))
    isplitr; · ipureintro; exact fun _ _ => Or.inl trivial
    iexact HO
  unfold stg
  isplitl [Hact]
  · iexists _; isplitr; · (ipureintro; rfl)
    iexact Hact
  isplitl [Hgate]
  · iexists _; isplitr; · (ipureintro; rfl)
    iexact Hgate
  isplitl [Hup]
  · iexists _; isplitr; · (ipureintro; rfl)
    iexact Hup
  isplitl [Hdown]
  · iexists _; isplitr; · (ipureintro; rfl)
    iexact Hdown
  iexists _; isplitr; · (ipureintro; rfl)
  iexact Hout

/-- Before the body, as the launch states it. -/
def before' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

/-- What the body finds in the staging buffers of its arguments are the arguments' blocks. -/
theorem found_act (c : Dev nD) (d) : (dats m 0 c).before (0 : Fin 5) t0_0 d = actB m c := by
  unfold Dat.before; rw [if_pos (fetch0_0 t0_0)]; rfl
/-- Likewise the gate weight's block, -/
theorem found_gate (c : Dev nD) (d) : (dats m 0 c).before (1 : Fin 5) t0_0 d = gateB m c := by
  unfold Dat.before; rw [if_pos (fetch0_1 t0_0)]; rfl
/-- the up weight's, -/
theorem found_up (c : Dev nD) (d) : (dats m 0 c).before (2 : Fin 5) t0_0 d = upB m c := by
  unfold Dat.before; rw [if_pos (fetch0_2 t0_0)]; rfl
/-- and the last weight's. -/
theorem found_down (c : Dev nD) (d) : (dats m 0 c).before (3 : Fin 5) t0_0 d = downB m c := by
  unfold Dat.before; rw [if_pos (fetch0_3 t0_0)]; rfl

/-- The body on device `c`, as the launch asks for it. -/
theorem body_obligation (c : Dev nD) : BodyObligation (dats (F := F) m 0 c) (defs₀ (F := F)) 𝒱₀ () Set.univ := fun t => by
  rw [fin_N0 t]
  rw [bigSep_W0, bigSep_W0]
  simp only [owns_stg]
  show before' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) (fun _ => after m c)
  unfold before' Φ₀ start
  simp only [found_act, found_gate, found_up, found_down]
  iintro ⟨⟨⟨⟨%K, HR⟩, Hs⟩, Hb⟩, Ho, ⟨%d0, H0⟩, ⟨%d1, H1⟩, ⟨%d2, H2⟩, ⟨%d3, H3⟩, ⟨%d4, H4⟩⟩
  iapply (body_runs m K c fun _ => after m c)
  unfold before
  isplitr []
  · isplitl [HR Hs]
    · isplitl [HR]; · iexact HR
      iexact Hs
    isplitl [Hb]; · iexact Hb
    isplitl [Ho]; · iexact Ho
    isplitl [H0]; · iexact H0
    isplitl [H1]; · iexact H1
    isplitl [H2]; · iexact H2
    isplitl [H3]; · iexact H3
    iexists _; iexact H4
  · iintro H; iexact H

end Cert.AllToAll

end
-- ==== Proof.Tokens.lean ====
/-
# Tokens: the exchange's ghost state at the launch

The launch makes, for every device, the round of each of its seven semaphores and the tokens of the duties to be paid
on them. The semaphores' counters, all zero, go with the rounds into the shared record; the tokens go to the devices
that pay the duties: device `c` gets, for each exchange `j`, its peer's barrier token, its peer's arrival token and
its own departure token.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The semaphores and the tokens, as sets -/

/-- The kernel's own six semaphores: the seven but the barrier. -/
abbrev osem : Fin 6 → SemLoc sig := fun k => csem k.succ

/-- The six are the kernel's own semaphores, all of them and each once. -/
theorem ownSemFacts : Pipeline.OwnSemFacts cfg0.spec osem := by decide

/-- The seven numbers name seven semaphores; -/
theorem csem_injective : Function.Injective csem := by decide

/-- device and number name one semaphore. -/
theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

/-- Every semaphore of the exchange. -/
def xcells : Finset (GSem nD τ sig) := Finset.univ.map ⟨kcell, kcell_injective⟩

/-- Of an exchange and a kind of semaphore, the token: on the barrier (`0`), the departure (`1`), the arrival (`2`). -/
def tokSem (j i : Fin 3) : SemLoc sig × Fin 3 := match i with
  | 0 => (.reg barS, opp j)
  | 1 => (.dma (sendS j), 0)
  | 2 => (.dma (recvS j), 0)

/-- Different exchanges and kinds have different tokens, -/
theorem tokSem_injective : Function.Injective (fun ij : Fin 3 × Fin 3 => tokSem ij.1 ij.2) := by decide

/-- The token of device `x.1` numbered `x.2`. -/
def tokOf (x : Dev nD × Fin 3 × Fin 3) : GSem nD τ sig × ℕ × Fin 3 :=
  (((x.1 : Thread nD τ), (tokSem x.2.1 x.2.2).1), 0, (tokSem x.2.1 x.2.2).2)

/-- and so have different devices. -/
theorem tokOf_injective : Function.Injective tokOf := by
  rintro ⟨c, ij⟩ ⟨c', ij'⟩ h
  have hc : c = c' := congrArg (fun x : GSem nD τ sig × ℕ × Fin 3 => x.1.1.1) h
  have hi : ij = ij' := tokSem_injective (Prod.ext (congrArg (fun x : GSem nD τ sig × ℕ × Fin 3 => x.1.2) h)
    (congrArg (fun x : GSem nD τ sig × ℕ × Fin 3 => x.2.2) h))
  rw [hc, hi]

/-- Every token of the exchange. -/
def xtoks : Finset (GSem nD τ sig × ℕ × Fin 3) := Finset.univ.map ⟨tokOf, tokOf_injective⟩

/-- The ghost element of the launch: the staging pipeline's, and the exchange's. -/
def u₀ : UU := (initOf (Pipeline.cells cfgs cellOf_inj) (Pipeline.launchToks cfgs cellOf_inj), initOf xcells xtoks)

/-! ## What the element holds -/

/-- The tokens made at device `c` for exchange `j`, on `c`'s own semaphores; -/
def made (j : Fin 3) (c : Dev nD) : sProp 𝕄 :=
  iprop(dutyTok ER (barCell c) 0 (opp j) ∗ dutyTok ER (sendCell j c) 0 0 ∗ dutyTok ER (recvCell j c) 0 0)
/-- and those device `c` pays with. -/
def paid (j : Fin 3) (c : Dev nD) : sProp 𝕄 :=
  iprop(dutyTok ER (barCell (dst j c)) 0 (opp j) ∗ dutyTok ER (sendCell j c) 0 0 ∗ dutyTok ER (recvCell j (dst j c)) 0 0)

omit [FloatOps F] in
/-- Dealing the tokens of one exchange to the devices that pay with them. -/
theorem deal_one (j : Fin 3) : (bigSep Finset.univ (made j) : sProp 𝕄) ⊢ bigSep Finset.univ (paid j) := by
  unfold made paid
  rw [bigSep_sep', bigSep_sep', bigSep_sep', bigSep_sep',
    bigSep_univ_equiv (dstEquiv j) (fun c : Dev nD => (dutyTok ER (barCell c) 0 (opp j) : sProp 𝕄)),
    bigSep_univ_equiv (dstEquiv j) (fun c : Dev nD => (dutyTok ER (recvCell j c) 0 0 : sProp 𝕄))]
  exact BI.Entails.refl _

/-- A device's marks: the position of each of its semaphores. -/
def marks (c : Dev nD) : sProp 𝕄 := bigSep Finset.univ fun k : Fin 7 => atPos ER (kcell (c, k)) 0 ∅ 0

/-- What the launch's element holds for device `c`. -/
def G (c : Dev nD) : sProp 𝕄 :=
  iprop((bigSep Finset.univ fun k : Fin 7 => roundState ER (xch (part m)) (kcell (c, k)) 0)
    ∗ (bigSep Finset.univ fun k : Fin 7 => reached ER (kcell (c, k)) 0) ∗ marks c ∗ made 0 c ∗ made 1 c ∗ made 2 c)

/-- What a device has once the record is made. -/
def G' (c : Dev nD) : sProp 𝕄 :=
  iprop((∃ K, records (part m) K) ∗ marks c ∗ paid 0 c ∗ paid 1 c ∗ paid 2 c)

omit [FloatOps F] in
/-- A product over all semaphores, device by device. -/
theorem over_cells (Φ : GSem nD τ sig → sProp 𝕄) :
    bigSep xcells Φ = bigSep Finset.univ fun c : Dev nD => bigSep Finset.univ fun k : Fin 7 => Φ (kcell (c, k)) := by
  unfold xcells; rw [bigSep_map, bigSep_univ_prod]; rfl

omit [FloatOps F] in
/-- All tokens, exchange by exchange. -/
theorem over_toks : bigSep xtoks (fun x => (dutyTok ER x.1 x.2.1 x.2.2 : sProp 𝕄))
    = iprop(bigSep Finset.univ (made 0) ∗ bigSep Finset.univ (made 1) ∗ bigSep Finset.univ (made 2)) := by
  unfold xtoks
  rw [bigSep_map, bigSep_univ_prod, ← bigSep_sep', ← bigSep_sep']
  refine bigSep_congr fun c _ => ?_
  rw [bigSep_univ_prod, bigSep_three, bigSep_three, bigSep_three, bigSep_three]
  rfl

/-- The launch's element buys every device its share. -/
theorem fund : (BI.own (ER (initOf xcells xtoks)) : sProp 𝕄) ⊢ |==> bigSep Finset.univ (G m) := by
  iintro HX
  imod (Rounds.fund ER (xch (part m)) xcells xtoks) $$ HX with ⟨Hst, Hr, Hat, Htok⟩
  imodintro
  unfold G marks
  rw [bigSep_sep', bigSep_sep', bigSep_sep', bigSep_sep', bigSep_sep', ← over_toks,
    ← over_cells (fun g => roundState ER (xch (part m)) g 0), ← over_cells (fun g => reached ER g 0),
    ← over_cells (fun g => atPos ER g 0 ∅ 0)]
  isplitl [Hst]; · iexact Hst
  isplitl [Hr]; · iexact Hr
  isplitl [Hat]; · iexact Hat
  iexact Htok

/-! ## The semaphores' counters -/

omit [FloatOps F] in
/-- The kernel's own six semaphores, at zero. -/
theorem ownSems_eq (c : Dev nD) :
    (Pipeline.ownSems0 (Ix := Unit) (Name := ℕ) (U := UU) (Lvl := ℕ) (Val := Elt F) (τ := τ) osem c : sProp 𝕄)
      = bigSep Finset.univ fun k : Fin 6 => semVal (kcell (c, k.succ)) 0 := by
  rw [Pipeline.ownSems0_eq_of_list c osem [0, 1, 2, 3, 4, 5] (by decide) (by decide),
    bigSep_univ_eq_bigSepL [0, 1, 2, 3, 4, 5] (by decide) (by decide)]
  rfl

omit [FloatOps F] in
/-- The one semaphore outside the kernel's own is the barrier. -/
theorem unscoped_eq (c : Dev nD) : (unscopedSems0 c : sProp 𝕄) = semVal (barCell c) 0 := by
  unfold unscopedSems0
  rw [bigSep_eq_bigSepL_of_eq [SemLoc.reg barS] (by decide) (by decide)]
  rfl

omit [FloatOps F] in
/-- A separating product over seven, written out. -/
theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL (I := Fin 7) [0, 1, 2, 3, 4, 5, 6] (by decide) (by decide) Φ

omit [FloatOps F] in
/-- The seven counters of a device. -/
theorem counters (c : Dev nD) : iprop(unscopedSems0 c ∗ Pipeline.ownSems0 osem c)
    ⊢ (bigSep Finset.univ fun k : Fin 7 => semVal (kcell (c, k)) 0 : sProp 𝕄) := by
  rw [ownSems_eq, unscoped_eq, bigSep_seven, bigSep_univ_eq_bigSepL [0, 1, 2, 3, 4, 5] (by decide) (by decide)]
  exact BI.Entails.refl _

/-! ## The record -/

/-- The records of one device's semaphores, opened. -/
theorem device_records (c : Dev nD) :
    iprop((bigSep Finset.univ fun k : Fin 7 => semVal (kcell (c, k)) 0)
        ∗ bigSep Finset.univ fun k : Fin 7 => roundState ER (xch (part m)) (kcell (c, k)) 0)
      ⊢ |={Set.univ}=> (bigSep Finset.univ fun k : Fin 7 =>
          iprop(∃ κ : ℕ, cellInv ER (xch (part m)) κ (kcell (c, k))) : sProp 𝕄) := by
  rw [← bigSep_sep']
  exact (bigSep_mono fun k _ => (Rounds.body_intro ER (xch (part m)) (kcell (c, k))).trans inv_alloc).trans
    (bigSep_fupd _ _)

/-- One device's part of the set-up. -/
theorem device_setup (c : Dev nD) :
    iprop(Pipeline.ownSems0 osem c ∗ unscopedSems0 c ∗ G m c)
      ⊢ |={Set.univ}=> (iprop((bigSep Finset.univ fun k : Fin 7 =>
            iprop(∃ κ : ℕ, cellInv ER (xch (part m)) κ (kcell (c, k))))
          ∗ (bigSep Finset.univ fun k : Fin 7 => reached ER (kcell (c, k)) 0)
          ∗ marks c ∗ made 0 c ∗ made 1 c ∗ made 2 c) : sProp 𝕄) := by
  unfold G
  iintro ⟨Ho, Hu, Hst, Hrest⟩
  ihave Hc := (counters c) $$ [Hu Ho]
  · isplitl [Hu]
    · iexact Hu
    · iexact Ho
  imod (device_records m c) $$ [Hc Hst] with Hrec
  · isplitl [Hc]
    · iexact Hc
    · iexact Hst
  imodintro
  isplitl [Hrec]
  · iexact Hrec
  · iexact Hrest

/-- All devices' records, read as one record every device has. -/
theorem share_record :
    (iprop((bigSep Finset.univ fun c : Dev nD => bigSep Finset.univ fun k : Fin 7 =>
            iprop(∃ κ : ℕ, cellInv ER (xch (part m)) κ (kcell (c, k))))
          ∗ (bigSep Finset.univ fun c : Dev nD => bigSep Finset.univ fun k : Fin 7 => reached ER (kcell (c, k)) 0)) :
        sProp 𝕄)
      ⊢ iprop(∃ K, records (part m) K) := by
  rw [← bigSep_univ_prod (fun ck : Dev nD × Fin 7 =>
      (iprop(∃ κ : ℕ, cellInv ER (xch (part m)) κ (kcell ck)) : sProp 𝕄)),
    ← bigSep_univ_prod (fun ck : Dev nD × Fin 7 => (reached ER (kcell ck) 0 : sProp 𝕄))]
  iintro ⟨Hi, Hr⟩
  ihave Hk := (BI.bigSep_exists_pi Finset.univ
    (fun (ck : Dev nD × Fin 7) (κ : ℕ) => (cellInv ER (xch (part m)) κ (kcell ck) : sProp 𝕄))) $$ Hi
  icases Hk with ⟨%K, Hk⟩
  iexists K
  unfold records
  isplitl [Hk]
  · iexact Hk
  · iexact Hr

/-- The record, at whatever names, may be used any number of times. -/
instance record_persistent : Persistent (iprop(∃ K, records (part m) K) : sProp 𝕄) := inferInstance

/-- From every device's share to what every device needs. -/
theorem regroup :
    (bigSep Finset.univ fun c : Dev nD => iprop((bigSep Finset.univ fun k : Fin 7 =>
            iprop(∃ κ : ℕ, cellInv ER (xch (part m)) κ (kcell (c, k))))
          ∗ (bigSep Finset.univ fun k : Fin 7 => reached ER (kcell (c, k)) 0)
          ∗ marks c ∗ made 0 c ∗ made 1 c ∗ made 2 c) : sProp 𝕄)
      ⊢ bigSep Finset.univ (G' m) := by
  rw [bigSep_sep', bigSep_sep', bigSep_sep', bigSep_sep', bigSep_sep']
  iintro ⟨Hi, Hr, Hm, H0, H1, H2⟩
  ihave HR := (share_record m) $$ [Hi Hr]
  · isplitl [Hi]
    · iexact Hi
    · iexact Hr
  ihave Hall := (BI.bigSep_of_persistent (Finset.univ : Finset (Dev nD)) (iprop(∃ K, records (part m) K) : sProp 𝕄)) $$ HR
  unfold G'
  rw [bigSep_sep', bigSep_sep', bigSep_sep', bigSep_sep']
  isplitl [Hall]; · iexact Hall
  isplitl [Hm]; · iexact Hm
  isplitl [H0]; · iapply (deal_one 0) $$ H0
  isplitl [H1]; · iapply (deal_one 1) $$ H1
  iapply (deal_one 2) $$ H2

/-- The set-up of the whole mesh: every device has the record, its marks, and the tokens it pays with. -/
theorem setup :
    (bigSep Finset.univ fun c : Dev nD => iprop(Pipeline.ownSems0 osem c ∗ unscopedSems0 c ∗ G m c) : sProp 𝕄)
      ⊢ |={Set.univ}=> bigSep Finset.univ (G' m) :=
  ((bigSep_mono fun c _ => device_setup m c).trans (bigSep_fupd _ _)).trans (BI.fupd_mono (regroup m))

end Cert.AllToAll

end
-- ==== Proof.Credits.lean ====
/-
# Credits: what the launch's debts let each device wait for

Every device owes, at the launch, one signal to each peer's barrier and one copy to each peer. Summed over the devices,
a device's barrier is owed three signals, and each of its three arrival semaphores one copy.
-/
module

public import proofs.«01_k».proof.Proof.Tokens

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Different devices have different barriers. -/
theorem barCell_eq_iff {c d : Dev nD} : barCell c = barCell d ↔ c = d :=
  ⟨fun h => congrArg (fun g : GSem nD τ sig => g.1.1) h, fun h => h ▸ rfl⟩

/-- A barrier is no arrival semaphore. -/
theorem barCell_ne_recvCell (c : Dev nD) (j : Fin 3) (d : Dev nD) : barCell c ≠ recvCell j d :=
  fun h => nomatch congrArg Prod.snd h

/-- The three arrival semaphores differ. -/
theorem recvSem_injective : Function.Injective (fun j : Fin 3 => (SemLoc.dma (recvS j) : SemLoc sig)) := by decide

/-- An arrival semaphore determines its exchange and its device. -/
theorem recvCell_eq_iff {j i : Fin 3} {c d : Dev nD} : recvCell j c = recvCell i d ↔ j = i ∧ c = d :=
  ⟨fun h => ⟨recvSem_injective (congrArg Prod.snd h), congrArg (fun g : GSem nD τ sig => g.1.1) h⟩,
    fun ⟨h, h'⟩ => by rw [h, h']⟩

/-- The signals owed to a device's barrier, device by device; -/
theorem owed_bar (d c : Dev nD) : owed₀ d (barCell c) () = ∑ j : Fin 3, if c = dst j d then 1 else 0 := by
  unfold owed₀ cpyDue sigDue
  rw [Pi.add_apply, Finsupp.add_apply, dueBy_apply, dueBy_apply,
    Finset.sum_eq_zero fun j _ => if_neg fun h => barCell_ne_recvCell _ _ _ h.2, Nat.zero_add]
  exact Finset.sum_congr rfl fun j _ =>
    if_congr ⟨fun h => barCell_eq_iff.mp h.2, fun h => ⟨Nat.zero_le _, barCell_eq_iff.mpr h⟩⟩ rfl rfl

/-- and the bytes owed to one of its arrival semaphores. -/
theorem owed_recv (j : Fin 3) (d c : Dev nD) :
    owed₀ d (recvCell j c) () = (∑ i : Fin 3, if j = i ∧ c = dst i d then 1 else 0) * N := by
  unfold owed₀ cpyDue sigDue
  rw [Pi.add_apply, Finsupp.add_apply, dueBy_apply, dueBy_apply,
    Finset.sum_eq_zero (f := fun i : Fin 3 => if _ ∧ recvCell j c = barCell (dst i d) then 1 else 0)
      fun i _ => if_neg fun h => barCell_ne_recvCell _ _ _ h.2.symm, Nat.add_zero, Finset.sum_mul]
  refine Finset.sum_congr rfl fun i _ => ?_
  rw [ite_mul, one_mul, zero_mul]
  exact if_congr ⟨fun h => recvCell_eq_iff.mp h.2, fun h => ⟨Nat.zero_le _, recvCell_eq_iff.mpr h⟩⟩ rfl rfl

/-- Three signals in all, -/
theorem launch_bar (c : Dev nD) :
    tallyOn (barCell c) (launchCredit (Pipeline.owing owed₀) 0 (barCell c))
      = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  revert c; decide

/-- and one copy for each exchange. -/
theorem launch_recv (j : Fin 3) (c : Dev nD) :
    tallyOn (recvCell j c) (launchCredit (Pipeline.owing owed₀) 0 (recvCell j c))
      = (tallyAt (recvCell j c) () N : CellTallies nD τ sig Unit) := by
  have h : (∑ d : Dev nD, ∑ i : Fin 3, if j = i ∧ c = dst i d then 1 else 0) = 1 := by revert j c; decide
  unfold tallyAt
  refine congrArg _ (Finsupp.ext fun u => ?_)
  cases u
  rw [Pipeline.launchCredit_owing, Finsupp.single_eq_same, Finset.sum_congr rfl fun d _ => owed_recv j d c,
    ← Finset.sum_mul, h, Nat.one_mul]

omit [FloatOps F] in
/-- The credits a device starts with. -/
theorem credits (c : Dev nD) : (Pipeline.launchCred owed₀ c : sProp 𝕄)
    ⊢ iprop(cred (tallyAt (barCell c) () 3) ∗ cred (tallyAt (recvCell 0 c) () N) ∗ cred (tallyAt (recvCell 1 c) () N)
        ∗ cred (tallyAt (recvCell 2 c) () N)) := by
  unfold Pipeline.launchCred
  rw [bigSep_univ_at _ (SemLoc.reg barS), launch_bar, ← launch_recv 0, ← launch_recv 1, ← launch_recv 2]
  refine sep_mono_right ?_
  refine (BI.bigSep_subset (t := Finset.univ.map ⟨_, recvSem_injective⟩) ?_).trans ?_
  · intro sm h
    obtain ⟨j, -, rfl⟩ := Finset.mem_map.mp h
    exact Finset.mem_erase.mpr ⟨fun h => (nomatch h), Finset.mem_univ _⟩
  · rw [bigSep_map, bigSep_three]
    exact BI.Entails.refl _

end Cert.AllToAll

end
-- ==== Proof.Run.lean ====
/-
# Run: the whole program's run, from any memory

Every weakly fair execution of the program on the four devices ends, with every semaphore at zero and every window's
array as the proof data says: the four inputs unchanged, the result holding the block `total` of its device.
-/
module

public import proofs.«01_k».proof.Proof.Credits
public import Idealize.ShloMosaic.Lib.Pipeline.CollectiveSegs
public import Idealize.ShloMosaic.Lib.Quiescent

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A separating product over six, written out. -/
theorem bigSep_six (Φ : Fin 6 → sProp 𝕄) :
    bigSep Finset.univ Φ = iprop(Φ 0 ∗ Φ 1 ∗ Φ 2 ∗ Φ 3 ∗ Φ 4 ∗ Φ 5) :=
  bigSep_univ_eq_bigSepL (I := Fin 6) [0, 1, 2, 3, 4, 5] (by decide) (by decide) Φ

/-! ## Into the body and out of it -/

/-- What the launch hands a device is what its run starts from. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  unfold G' marks paid
  rw [bigSep_seven]
  iintro ⟨-, Hlev, Hcr, -, Hrec, ⟨HaB, HaS0, HaS1, HaS2, HaR0, HaR1, HaR2⟩, ⟨Hb0, Hs0, Hr0⟩, ⟨Hb1, Hs1, Hr1⟩, Hb2, Hs2, Hr2⟩
  ihave Hc := (credits (F := F) c) $$ Hcr
  icases Hc with ⟨HcB, Hc0, Hc1, Hc2⟩
  imodintro
  unfold start exch
  isplitl
  · isplitl [Hrec]; · iexact Hrec
    isplitl [Hlev]; · iexact Hlev
    isplitl [HaB]; · iexact HaB
    isplitl [HcB]; · iexact HcB
    isplitl [HaS0 HaR0 Hb0 Hs0 Hr0 Hc0]
    · isplitl [HaS0]; · iexact HaS0
      isplitl [HaR0]; · iexact HaR0
      isplitl [Hb0]; · iexact Hb0
      isplitl [Hs0]; · iexact Hs0
      isplitl [Hr0]; · iexact Hr0
      iexact Hc0
    isplitl [HaS1 HaR1 Hb1 Hs1 Hr1 Hc1]
    · isplitl [HaS1]; · iexact HaS1
      isplitl [HaR1]; · iexact HaR1
      isplitl [Hb1]; · iexact Hb1
      isplitl [Hs1]; · iexact Hs1
      isplitl [Hr1]; · iexact Hr1
      iexact Hc1
    · isplitl [HaS2]; · iexact HaS2
      isplitl [HaR2]; · iexact HaR2
      isplitl [Hb2]; · iexact Hb2
      isplitl [Hs2]; · iexact Hs2
      isplitl [Hr2]; · iexact Hr2
      iexact Hc2
  · iempintro

/-- The body's beginning: the start, and the exchange's buffers at any contents. -/
theorem enter (c : Dev nD) :
    iprop(start m c ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl, scopedRest0_eq]
  unfold Φ₀ bufs
  iintro ⟨Hs, -, Hb⟩
  isplitl [Hs]
  · iexact Hs
  · iexact Hb

/-- The body's end: every semaphore at zero, the buffers given back. -/
theorem leave (c : Dev nD) :
    (dats m 0 c).Φ (Fin.last cfg0.N)
      ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, unscoped_eq,
    bigSep_six]
  unfold Φ₁ bufs done
  iintro ⟨Hb, HB, ⟨Hs0, Hr0⟩, ⟨Hs1, Hr1⟩, Hs2, Hr2⟩
  isplitl [HB]; · iexact HB
  isplitl [Hs0 Hs1 Hs2 Hr0 Hr1 Hr2]
  · isplitl [Hs0]; · iexact Hs0
    isplitl [Hs1]; · iexact Hs1
    isplitl [Hs2]; · iexact Hs2
    isplitl [Hr0]; · iexact Hr0
    isplitl [Hr1]; · iexact Hr1
    iexact Hr2
  · iexact Hb

/-- Every array is held whole. -/
theorem share_eq (c : Dev nD) (w : Fin cfg0.W) : (dats m 0 c).share w = fullShare := by
  unfold Dat.share; split <;> rfl

/-- The staging's own waits are allowed, whatever the exchange owes. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- Every window's array as the proof data has it at the end. -/
def Final (r : PUnit × MemSt nD τ sig (Elt F)) : Prop :=
  ∀ (c : Dev nD) (w : Fin cfg0.W), r.2.mem ((cfg0.win w).arr.view.loc (c : Thread nD τ)) = (dats m 0 c).arrAt w cfg0.N

set_option maxRecDepth 8000 in
/-- From any memory with all counters at zero the program runs to the end on every fair schedule, and leaves `Final`
    arrays and zero counters. -/
theorem run_main : θ_run defs (onTc (τ := τ) (main (F := F))) ⟨m, fun _ => 0, ρ⟩
    (fun r => Final m r ∧ r.2.sem = fun _ => 0) :=
  Pipeline.θ_run_region_owing_glob_pf (fun p => (cfgs p).toPCfg) (fun p => (cfgs p).toPCfg_adm) (dats m) () cellOf_inj
    (0 : Fin 1) winFacts0.to₀ ownSemFacts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_eq m) (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := setup m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- A window over a whole array reads the array: the one block's elements keep their coordinates. -/
theorem read_arg0 (c : Dev nD) : actB m c = m ((c : Thread nD τ).loc main_arg0) :=
  funext fun y => congrArg (m ((c : Thread nD τ).loc main_arg0))
    (funext fun a => Fin.ext (Pipeline.Window.rect_emb_val_of_index_zero win0_0 (0 : Fin 1) a rfl y))
/-- So does the window over the gate weight, -/
theorem read_arg1 (c : Dev nD) : gateB m c = m ((c : Thread nD τ).loc main_arg1) :=
  funext fun y => congrArg (m ((c : Thread nD τ).loc main_arg1))
    (funext fun a => Fin.ext (Pipeline.Window.rect_emb_val_of_index_zero win0_1 (0 : Fin 1) a rfl y))
/-- over the up weight, -/
theorem read_arg2 (c : Dev nD) : upB m c = m ((c : Thread nD τ).loc main_arg2) :=
  funext fun y => congrArg (m ((c : Thread nD τ).loc main_arg2))
    (funext fun a => Fin.ext (Pipeline.Window.rect_emb_val_of_index_zero win0_2 (0 : Fin 1) a rfl y))
/-- and over the last weight. -/
theorem read_arg3 (c : Dev nD) : downB m c = m ((c : Thread nD τ).loc main_arg3) :=
  funext fun y => congrArg (m ((c : Thread nD τ).loc main_arg3))
    (funext fun a => Fin.ext (Pipeline.Window.rect_emb_val_of_index_zero win0_3 (0 : Fin 1) a rfl y))

/-- The result's one block, too, is its whole array. -/
theorem read_result (X : Block F) : (win0_4.blk (0 : Fin 1)).view.read (Elt F) X = X :=
  funext fun y => congrArg X
    (funext fun a => Fin.ext (Pipeline.Window.rect_emb_val_of_index_zero win0_4 (0 : Fin 1) a rfl y))

/-- So the result array ends holding the device's block. -/
theorem result_eq (c : Dev nD) : (dats m 0 c).arrAt 4 cfg0.N = total m c := by
  refine ((dats m 0 c).arrAt_succ (4 : Fin 5) t0_0).trans ?_
  rw [flush0_4, if_pos rfl]
  exact (read_result _).symm.trans (View.read_write_univ _ _)

/-- What the run leaves, in the program's own names: the result on every device, and the four arguments as they were. -/
theorem run_value : θ_run defs (onTc (τ := τ) (main (F := F))) ⟨m, fun _ => 0, ρ⟩
    (fun r => (∀ c : Dev nD, r.2.mem ((c : Thread nD τ).loc main_v1) = total m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0) :=
  (θ_run defs _ _).mono (fun _ h => ⟨fun c => ⟨(h.1 c (4 : Fin 5)).trans (result_eq m c),
    (h.1 c (0 : Fin 5)).trans ((dats m 0 c).arrAt_in (0 : Fin 5) rfl _),
    (h.1 c (1 : Fin 5)).trans ((dats m 0 c).arrAt_in (1 : Fin 5) rfl _),
    (h.1 c (2 : Fin 5)).trans ((dats m 0 c).arrAt_in (2 : Fin 5) rfl _),
    (h.1 c (3 : Fin 5)).trans ((dats m 0 c).arrAt_in (3 : Fin 5) rfl _)⟩, h.2⟩) (run_main m ρ)

end Cert.AllToAll

end
-- ==== Proof.Texts.lean ====
/-
# Texts: the kernel and its idealised text are one program

No operation was rewritten between the two printed texts, so what is proved of one, over any float values, is proved
of the other.
-/
module

public import proofs.«01_k».proof.Proof.Run
public import proofs.«01_k».proof.Proof.Gen.Kernel

@[expose] public section

noncomputable section

namespace Cert.AllToAll

open Idealize.ShloMosaic Idealize.SL.Sem

variable {F : FTy → Type} [FloatOps F]

/-- The two texts' kernel bodies agree, label by label; -/
theorem bodies_eq : Cert.Kernel.defs₀ (F := F) = Cert.KernelIdeal.defs₀ (F := F) := by
  refine congrArg Defs.onTc (funext fun ℓ => funext fun x => ?_)
  match ℓ, x with
  | ⟨0, _⟩, (t, s) => rfl
  | ⟨_ + 1, h⟩, _ => exact absurd h (Nat.not_lt.2 (Nat.le_add_left _ _))

/-- so do the tables with the launch added. -/
theorem tables_eq : Cert.Kernel.defs (F := F) = Cert.KernelIdeal.defs (F := F) :=
  congrArg (Pipeline.defs Cert.KernelIdeal.pcfgs) bodies_eq

/-- A run of the one text is a run of the other. -/
theorem run_of_ideal {s : MemSt Cert.Kernel.nD Cert.Kernel.τ Cert.Kernel.sig (Elt F)}
    {Q : PUnit × MemSt Cert.Kernel.nD Cert.Kernel.τ Cert.Kernel.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [tables_eq]
  exact h

end Cert.AllToAll

end
-- ==== Proof.Cell.lean ====
/-
# Cell: one entry of the hidden layer

Both programs compute, for a row `x` of the activations and a column of each of the two weight matrices, the gate's
dot product times the SiLU of the up projection's. One writes the SiLU of `z` as `z` times the logistic function of
`z`, the other as `z` divided by `1 + exp (-z)`. Over the extended reals the two are equal at every `z`, infinities
included, as the divisor is never zero.
-/
module

public import Idealize.ShloMosaic.Lib.Pointwise
public import Idealize.ShloMosaic.Lib.IdealHost

@[expose] public section

noncomputable section

namespace Cert.AllToAll

open Idealize.ShloMosaic

/-- The exponential is never negative. -/
theorem exp_nonneg (x : EReal) : 0 ≤ Ideal.exp x := by
  induction x with
  | bot => exact le_refl _
  | coe r => rw [Ideal.exp_coe]; exact_mod_cast (Real.exp_pos r).le
  | top => exact le_top

/-- One plus an exponential is not zero. -/
theorem one_add_exp_ne_zero (x : EReal) : 1 + Ideal.exp x ≠ 0 :=
  ne_of_gt (lt_of_lt_of_le zero_lt_one (le_add_of_nonneg_right (exp_nonneg x)))

/-- SiLU as a quotient is SiLU as a product with the logistic function. -/
theorem silu_eq (z : EReal) : Ideal.div z (1 + Ideal.exp (-z)) = z * Ideal.logistic z := by
  unfold Ideal.logistic Ideal.div
  rw [if_neg (one_add_exp_ne_zero _), if_neg (one_add_exp_ne_zero _), one_mul]

/-- The hidden layer's entry at a row `x` of the activations and columns `g`, `u` of the weights. -/
def cell (x g u : Fin 256 → EReal) : EReal :=
  (∑ p, x p * g p) * ((∑ p, x p * u p) * Ideal.logistic (∑ p, x p * u p))

end Cert.AllToAll

end
-- ==== Proof.Shard.lean ====
/-
# Shard: what one device's block holds, over the extended reals

Entry `(r, l)` of the block a device computes is the sum, over the 512 hidden columns of its slice, of the hidden
layer's entry in row `r` times the down weight at column `l`.
-/
module

public import proofs.«01_k».proof.Proof.Run
public import proofs.«01_k».proof.Proof.Cell

@[expose] public section

set_option maxRecDepth 16384

noncomputable section

namespace Cert.AllToAll

open Cert.KernelIdeal Cert.KernelIdeal.Gen
open Idealize.ShloMosaic
open Idealize.ShloMosaic.TcCoe

/-- A device's block, entry by entry. -/
theorem part_apply (m : (ℓ : Loc nD τ sig) → Buf (Elt Ideal) ℓ) (c : Dev nD) (r l : Fin 256) :
    part m c (ix2 r l) = ∑ k : Fin 512,
      cell (fun p => actB m c (ix2 r p)) (fun p => gateB m c (ix2 p k)) (fun p => upB m c (ix2 p k))
        * downB m c (ix2 k l) := by
  unfold part cell
  generalize actB m c = x
  generalize gateB m c = g
  generalize upB m c = u
  generalize downB m c = d
  pointwise [k0_pay1, k0_pay2, k0_pay3, k0_pay4]

end Cert.AllToAll

end
-- ==== Proof.Whole.lean ====
/-
# Whole: what the reference computes, over the extended reals

Entry `(r, l)` of the reference's result is the sum, over all 2048 hidden columns, of the hidden layer's entry in row
`r` times the down weight at column `l`.
-/
module

public import proofs.«01_k».proof.Proof.Gen.ReferenceIdeal.Run
public import proofs.«01_k».proof.Proof.Cell

@[expose] public section

set_option maxRecDepth 16384

noncomputable section

namespace Cert.AllToAll

open Idealize.ShloMosaic
open Cert.ReferenceIdeal Cert.ReferenceIdeal.Gen

/-- The reference's composed operations, as a function of its four arrays. -/
def refOut (x : FVec Ideal S256x256 .f32) (g u : FVec Ideal S256x2048 .f32) (d : FVec Ideal S2048x256 .f32) :
    FVec Ideal S256x256 .f32 :=
  Host.dotGeneral dot_S256x2048_S2048x256_S256x256_1_0_0_1_n_n none
    (mulf (Host.dotGeneral dot_S256x256_S256x2048_S256x2048_1_0_0_1_n_n none x g)
      (Host.divf (Host.dotGeneral dot_S256x256_S256x2048_S256x2048_1_0_0_1_n_n none x u)
        (addf (broadcastInDim S256x2048 ![] bcast_S_S256x2048 (constant S_ .f32 0x3F800000#32))
          (Host.exp (Host.negf (Host.dotGeneral dot_S256x256_S256x2048_S256x2048_1_0_0_1_n_n none x u)))))) d

/-- The reference's result, entry by entry. -/
theorem refOut_apply (x : FVec Ideal S256x256 .f32) (g u : FVec Ideal S256x2048 .f32) (d : FVec Ideal S2048x256 .f32)
    (r l : Fin 256) :
    refOut x g u d (ix2 r l) = ∑ k : Fin 2048,
      cell (fun p => x (ix2 r p)) (fun p => g (ix2 p k)) (fun p => u (ix2 p k)) * d (ix2 k l) := by
  unfold cell
  simp only [← silu_eq]
  pointwise [refOut]

end Cert.AllToAll

end
-- ==== Proof.Equation.lean ====
/-
# Equation: the devices' blocks add up to the reference's result

Each device holds 512 of the 2048 hidden columns. Its block is the sum over its own columns, so the four blocks
together are the sum over all of them, in whatever order a device adds them.
-/
module

public import proofs.«01_k».proof.Proof.Shard
public import proofs.«01_k».proof.Proof.Whole
public import Idealize.ShloMosaic.Lib.Layout
public import Idealize.ShloMosaic.Lib.Pipeline.ValueKit

@[expose] public section

set_option maxRecDepth 16384

noncomputable section

namespace Cert.AllToAll

open Cert.KernelIdeal
open Idealize.ShloMosaic
open Idealize.ShloMosaic.TcCoe

/-- A device's own value and those of its three peers are the four devices' values. -/
theorem sum_peers (f : Dev nD → EReal) (c : Dev nD) :
    f c + f (org 0 c) + f (org 1 c) + f (org 2 c) = ∑ d : Dev nD, f d := by
  rw [show (∑ d : Dev nD, f d) = f 0 + f 1 + f 2 + f 3 from Fin.sum_univ_four f]
  have h : ∀ c : Dev nD, (c = 0 ∧ org 0 c = 3 ∧ org 1 c = 1 ∧ org 2 c = 2) ∨ (c = 1 ∧ org 0 c = 0 ∧ org 1 c = 2 ∧ org 2 c = 3)
      ∨ (c = 2 ∧ org 0 c = 1 ∧ org 1 c = 3 ∧ org 2 c = 0) ∨ (c = 3 ∧ org 0 c = 2 ∧ org 1 c = 0 ∧ org 2 c = 1) := by decide
  rcases h c with h | h | h | h <;> obtain ⟨h0, h1, h2, h3⟩ := h <;> rw [h1, h2, h3, h0] <;> ac_rfl

/-- A block of columns, entry by entry; -/
theorem cols_apply (c : Fin 4) (w : FVec Ideal ⟨2, ![256, 2048]⟩ .f32) (p : Fin 256) (k : Fin 512)
    (h : c.val * 512 + k.val < 2048) :
    (Layout.block ⟨2, ![256, 512]⟩ ⟨2, ![256, 2048]⟩ 1 4 c w) (ix2 p k) = w (ix2 p ⟨c.val * 512 + k.val, h⟩) :=
  congrArg w (funext fun a => match a with | ⟨0, _⟩ => rfl | ⟨1, _⟩ => rfl)

/-- a block of rows. -/
theorem rows_apply (c : Fin 4) (w : FVec Ideal ⟨2, ![2048, 256]⟩ .f32) (k : Fin 512) (l : Fin 256)
    (h : c.val * 512 + k.val < 2048) :
    (Layout.block ⟨2, ![512, 256]⟩ ⟨2, ![2048, 256]⟩ 0 4 c w) (ix2 k l) = w (ix2 ⟨c.val * 512 + k.val, h⟩ l) :=
  congrArg w (funext fun a => match a with | ⟨0, _⟩ => rfl | ⟨1, _⟩ => rfl)

/-- When every device holds its share of the arrays, every device's result is the reference's. -/
theorem total_eq (m : (ℓ : Loc nD τ sig) → Buf (Elt Ideal) ℓ) (x : FVec Ideal ⟨2, ![256, 256]⟩ .f32)
    (g u : FVec Ideal ⟨2, ![256, 2048]⟩ .f32) (d : FVec Ideal ⟨2, ![2048, 256]⟩ .f32)
    (hx : ∀ c : Dev nD, m ((c : Thread nD τ).loc main_arg0) = x)
    (hg : ∀ c : Dev nD, m ((c : Thread nD τ).loc main_arg1) = Layout.block ⟨2, ![256, 512]⟩ ⟨2, ![256, 2048]⟩ 1 4 c g)
    (hu : ∀ c : Dev nD, m ((c : Thread nD τ).loc main_arg2) = Layout.block ⟨2, ![256, 512]⟩ ⟨2, ![256, 2048]⟩ 1 4 c u)
    (hd : ∀ c : Dev nD, m ((c : Thread nD τ).loc main_arg3) = Layout.block ⟨2, ![512, 256]⟩ ⟨2, ![2048, 256]⟩ 0 4 c d)
    (c : Dev nD) : total m c = refOut x g u d := by
  funext i
  obtain ⟨r, l, rfl⟩ : ∃ (r l : Fin 256), i = ix2 r l := ⟨i 0, i 1, eq_ix2 i⟩
  refine (sum_peers (fun d => part m d (ix2 r l)) c).trans ?_
  rw [refOut_apply]
  refine (Finset.sum_congr rfl fun d _ => part_apply m d r l).trans ?_
  refine Fin.sum_mul_add_congr fun e k h => ?_
  rw [read_arg0, read_arg1, read_arg2, read_arg3, hx, hg, hu, hd, rows_apply e d k l h]
  simp only [cols_apply _ _ _ _ h]

end Cert.AllToAll

end
-- ==== Proof.lean ====
/-
# The certificate: the four-device gated MLP against its reference

The five claims, in order: the kernel runs on bit patterns, leaves its arguments and every semaphore as they were; so
does the kernel over the extended reals; so does the reference; nothing was rewritten between the kernel's two texts;
and every device's result is the reference's.
-/
module

public import proofs.«01_k».proof.Defs
public import proofs.«01_k».proof.Proof.Texts
public import proofs.«01_k».proof.Proof.Equation
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.AllToAll

/-- The kernel on bit patterns: its text is the idealised kernel's, so the run over any float values is its run. -/
theorem kernel_frame : Cert.quiescent_Kernel := fun m ρ _ =>
  run_of_ideal ((θ_run Cert.KernelIdeal.defs _ _).mono (fun _ h => ⟨fun c => (h.1 c).2, h.2⟩) (run_value (F := Bits) m ρ))

/-- The kernel over the extended reals. -/
theorem ideal_frame : Cert.quiescent_KernelIdeal := fun m ρ _ =>
  (θ_run Cert.KernelIdeal.defs _ _).mono (fun _ h => ⟨fun c => (h.1 c).2, h.2⟩) (run_value m ρ)

/-- The reference, which has no semaphore. -/
theorem reference_frame : Cert.quiescent_ReferenceIdeal := fun m ρ _ =>
  (θ_run Cert.ReferenceIdeal.defs _ _).mono
    (fun _ h => ⟨fun c => (h c).2, sem_eq_zero_of_no_sems (by decide) _⟩) (Cert.ReferenceIdeal.Value.run m ρ)

/-- Every device's result is the reference's. -/
theorem value : Cert.algebraic_KernelIdeal_ReferenceIdeal := fun m ρ m' ρ' _ hargs =>
  ⟨_, (θ_run Cert.KernelIdeal.defs _ _).mono (fun _ h c => ⟨((h.1 c).1).trans (total_eq m _ _ _ _
        (fun c => (hargs c).1) (fun c => (hargs c).2.1) (fun c => (hargs c).2.2.1) (fun c => (hargs c).2.2.2) c),
      (h.1 c).2⟩) (run_value m ρ),
    (θ_run Cert.ReferenceIdeal.defs _ _).mono (fun _ h => h 0) (Cert.ReferenceIdeal.Value.run m' ρ')⟩

/-- The five claims together, with the facts about the printed texts that they are stated under. -/
theorem claim : Cert.Claim := ⟨Cert.Kernel.Gen.facts, Cert.KernelIdeal.Gen.facts, Cert.ReferenceIdeal.Gen.facts,
  kernel_frame, ideal_frame, reference_frame, trivial, value⟩

end Cert.Proof

end
